-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x37CCCCCD#32 ((1 / 40960 : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "ln2_over_448" .f32 0x3ACACB89#32 (((Real.log 2) * (1 / 448) : ℝ) : EReal)
  ∧ IdealRules.named_const.Statement Cert.KernelIdeal.κ "neg_ln2" .f32 0xBF317218#32 ((-(Real.log 2) : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16x1024x1280 : Shape := ⟨3, ![16, 1024, 1280]⟩
abbrev S1280 : Shape := ⟨1, ![1280]⟩
abbrev S_ : Shape := ⟨0, ![]⟩

class Facts : Prop where
  bitsLt_bf16_f32 : FTy.bits .bf16 < FTy.bits .f32
  bcast_S_S16x1024x1280 : S_.BroadcastsInDim S16x1024x1280 (![] : Fin 0 → Fin S16x1024x1280.rank)
  reducesTo_S16x1024x1280_S_d0_1_2 : S16x1024x1280.ReducesTo [0, 1, 2] S_
  h_S_ : 0 < S_.numel
  bcast_S_S1280 : S_.BroadcastsInDim S1280 (![] : Fin 0 → Fin S1280.rank)
  reducesTo_S1280_S_d0 : S1280.ReducesTo [0] S_

variable [Facts]

def fn {F : FTy → Type} [FloatOps F] (main_arg0 : FVec F S16x1024x1280 .bf16) (main_arg1 : FVec F S1280 .f32) (main_arg2 : FVec F S1280 .f32) : IVec S_ 1 :=
  let main_v0 : FVec F S16x1024x1280 .f32 := (extf .f32 · bitsLt_bf16_f32) main_arg0
  let main_v1 : FVec F S16x1024x1280 .f32 := Host.absf main_v0
  let main_cst : FVec F S_ .f32 := constant S_ .f32 0x7F800000#32
  let main_v2 : FVec F S16x1024x1280 .f32 := broadcastInDim S16x1024x1280 ![] bcast_S_S16x1024x1280 main_cst
  let main_v3 : IVec S16x1024x1280 1 := cmpf .olt main_v1 main_v2
  let main_c : IVec S_ 1 := constantI S_ 1 1#1
  let main_v4 : IVec S_ 1 := (fun x v => Host.reduce IntOp.andi x v reducesTo_S16x1024x1280_S_d0_1_2 h_S_) main_v3 main_c
  let main_v5 : FVec F S1280 .f32 := Host.absf main_arg1
  let main_cst_0 : FVec F S_ .f32 := constant S_ .f32 0x71800000#32
  let main_v6 : FVec F S1280 .f32 := broadcastInDim S1280 ![] bcast_S_S1280 main_cst_0
  let main_v7 : IVec S1280 1 := cmpf .ole main_v5 main_v6
  let main_c_1 : IVec S_ 1 := constantI S_ 1 1#1
  let main_v8 : IVec S_ 1 := (fun x v => Host.reduce IntOp.andi x v reducesTo_S1280_S_d0 h_S_) main_v7 main_c_1
  let main_v9 : IVec S_ 1 := andi main_v4 main_v8
  let main_v10 : FVec F S1280 .f32 := Host.absf main_arg2
  let main_cst_2 : FVec F S_ .f32 := constant S_ .f32 0x71800000#32
  let main_v11 : FVec F S1280 .f32 := broadcastInDim S1280 ![] bcast_S_S1280 main_cst_2
  let main_v12 : IVec S1280 1 := cmpf .ole main_v10 main_v11
  let main_c_3 : IVec S_ 1 := constantI S_ 1 1#1
  let main_v13 : IVec S_ 1 := (fun x v => Host.reduce IntOp.andi x v reducesTo_S1280_S_d0 h_S_) main_v12 main_c_3
  let main_v14 : IVec S_ 1 := andi main_v9 main_v13
  main_v14
-- ==== Kernel.lean ====
abbrev S16x1024x1280 : Shape := ⟨3, ![16, 1024, 1280]⟩
abbrev S1280 : Shape := ⟨1, ![1280]⟩
abbrev S1x1280 : Shape := ⟨2, ![1, 1280]⟩
abbrev S_ : Shape := ⟨0, ![]⟩
abbrev S32 : Shape := ⟨1, ![32]⟩
abbrev S32x1 : Shape := ⟨2, ![32, 1]⟩
abbrev S32x1280 : Shape := ⟨2, ![32, 1280]⟩
abbrev S1280x1 : Shape := ⟨2, ![1280, 1]⟩
abbrev S1280x128 : Shape := ⟨2, ![1280, 128]⟩
abbrev S16x40x1024 : Shape := ⟨3, ![16, 40, 1024]⟩
abbrev S1x1024x1280 : Shape := ⟨3, ![1, 1024, 1280]⟩
abbrev S1x40x1024 : Shape := ⟨3, ![1, 40, 1024]⟩
abbrev S256x256 : Shape := ⟨2, ![256, 256]⟩
abbrev S8x128 : Shape := ⟨2, ![8, 128]⟩
abbrev S2x32x128 : Shape := ⟨3, ![2, 32, 128]⟩
abbrev S1x16x128 : Shape := ⟨3, ![1, 16, 128]⟩
abbrev S16x128 : Shape := ⟨2, ![16, 128]⟩
abbrev S8x1280 : Shape := ⟨2, ![8, 1280]⟩
abbrev S16x1280 : Shape := ⟨2, ![16, 1280]⟩
abbrev S32x16 : Shape := ⟨2, ![32, 16]⟩
abbrev S32x8 : Shape := ⟨2, ![32, 8]⟩
abbrev S32x128 : Shape := ⟨2, ![32, 128]⟩
abbrev S1x32x128 : Shape := ⟨3, ![1, 32, 128]⟩
abbrev S1x1x128 : Shape := ⟨3, ![1, 1, 128]⟩
abbrev S1x128 : Shape := ⟨2, ![1, 128]⟩
abbrev S40x128 : Shape := ⟨2, ![40, 128]⟩
abbrev S1x256x256 : Shape := ⟨3, ![1, 256, 256]⟩
abbrev S128 : Shape := ⟨1, ![128]⟩
abbrev S1x8x128 : Shape := ⟨3, ![1, 8, 128]⟩
abbrev S256x128 : Shape := ⟨2, ![256, 128]⟩
abbrev S16x1024x40 : Shape := ⟨3, ![16, 1024, 40]⟩

abbrev nBuf : Space → Nat
  | .hbm => 37
  | .vmem => 15
  | .smem => 0
  | _ => 0

abbrev bufTy : (tb : Table) → Fin (tcTables nBuf tb) → BufTy
  | .hbm, ⟨0, _⟩ => ⟨S16x1024x1280, .bf16⟩
  | .hbm, ⟨1, _⟩ => ⟨S1280, .f32⟩
  | .hbm, ⟨2, _⟩ => ⟨S1280, .f32⟩
  | .hbm, ⟨3, _⟩ => ⟨S1280, .i32⟩
  | .hbm, ⟨4, _⟩ => ⟨S1x1280, .i32⟩
  | .hbm, ⟨5, _⟩ => ⟨S_, .i32⟩
  | .hbm, ⟨6, _⟩ => ⟨S_, .i32⟩
  | .hbm, ⟨7, _⟩ => ⟨S1x1280, .i32⟩
  | .hbm, ⟨8, _⟩ => ⟨S1x1280, .i32⟩
  | .hbm, ⟨9, _⟩ => ⟨S1x1280, .i32⟩
  | .hbm, ⟨10, _⟩ => ⟨S_, .i32⟩
  | .hbm, ⟨11, _⟩ => ⟨S1x1280, .i32⟩
  | .hbm, ⟨12, _⟩ => ⟨S1x1280, .i1⟩
  | .hbm, ⟨13, _⟩ => ⟨S1x1280, .i32⟩
  | .hbm, ⟨14, _⟩ => ⟨S1x1280, .i32⟩
  | .hbm, ⟨15, _⟩ => ⟨S_, .i32⟩
  | .hbm, ⟨16, _⟩ => ⟨S1x1280, .i32⟩
  | .hbm, ⟨17, _⟩ => ⟨S1x1280, .i1⟩
  | .hbm, ⟨18, _⟩ => ⟨S1x1280, .i1⟩
  | .hbm, ⟨19, _⟩ => ⟨S_, .i32⟩
  | .hbm, ⟨20, _⟩ => ⟨S1x1280, .i32⟩
  | .hbm, ⟨21, _⟩ => ⟨S1x1280, .i32⟩
  | .hbm, ⟨22, _⟩ => ⟨S1x1280, .i32⟩
  | .hbm, ⟨23, _⟩ => ⟨S32, .i32⟩
  | .hbm, ⟨24, _⟩ => ⟨S32x1, .i32⟩
  | .hbm, ⟨25, _⟩ => ⟨S32x1280, .i32⟩
  | .hbm, ⟨26, _⟩ => ⟨S32x1280, .i32⟩
  | .hbm, ⟨27, _⟩ => ⟨S32x1280, .i1⟩
  | .hbm, ⟨28, _⟩ => ⟨S32x1280, .f32⟩
  | .hbm, ⟨29, _⟩ => ⟨S1280x1, .f32⟩
  | .hbm, ⟨30, _⟩ => ⟨S1280x128, .f32⟩
  | .hbm, ⟨31, _⟩ => ⟨S1280x1, .f32⟩
  | .hbm, ⟨32, _⟩ => ⟨S1280x128, .f32⟩
  | .hbm, ⟨33, _⟩ => ⟨S16x1024x1280, .fp8e4m3⟩
  | .hbm, ⟨34, _⟩ => ⟨S16x40x1024, .i32⟩
  | .hbm, ⟨35, _⟩ => ⟨S16x1024x40, .i32⟩
  | .hbm, ⟨36, _⟩ => ⟨S16x1024x40, .i8⟩
  | .local _ .vmem, ⟨0, _⟩ => ⟨S1x1024x1280, .bf16⟩
  | .local _ .vmem, ⟨1, _⟩ => ⟨S1x1024x1280, .bf16⟩
  | .local _ .vmem, ⟨2, _⟩ => ⟨S32x1280, .f32⟩
  | .local _ .vmem, ⟨3, _⟩ => ⟨S1280x128, .f32⟩
  | .local _ .vmem, ⟨4, _⟩ => ⟨S1280x128, .f32⟩
  | .local _ .vmem, ⟨5, _⟩ => ⟨S1x1024x1280, .fp8e4m3⟩
  | .local _ .vmem, ⟨6, _⟩ => ⟨S1x1024x1280, .fp8e4m3⟩
  | .local _ .vmem, ⟨7, _⟩ => ⟨S1x40x1024, .i32⟩
  | .local _ .vmem, ⟨8, _⟩ => ⟨S1x40x1024, .i32⟩
  | .local _ .vmem, ⟨9, _⟩ => ⟨S256x256, .f32⟩
  | .local _ .vmem, ⟨10, _⟩ => ⟨S1280x128, .f32⟩
  | .local _ .vmem, ⟨11, _⟩ => ⟨S1280x128, .f32⟩
  | .local _ .vmem, ⟨12, _⟩ => ⟨S8x128, .f32⟩
  | .local _ .vmem, ⟨13, _⟩ => ⟨S8x128, .f32⟩
  | .local _ .vmem, ⟨14, _⟩ => ⟨S2x32x128, .f32⟩
  | _, _ => ⟨S16x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v7798 : BitVec 32 := Scalar.addi c0_i32 c4_i32
  let c1_i32 : BitVec 32 := 1#32
  ⟨c0_i32, v7798, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  v7799
def k0_off1 (k0_t1 : Fin k0_t1_loop.trips) : Fin 3 → Nat :=
  let c0_2332 : Index := 0#32
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  let v7800 : BitVec 32 := v7799
  let v7801 : Index := Scalar.indexCast v7800
  let c0_2333 : Index := 0#32
  ![0, v7801.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_2444 : BitVec 32 := 256#32
  let v8076 : BitVec 32 := Scalar.muli arg13 c256_i32_2444
  let c0_i32_2445 : BitVec 32 := 0#32
  let v8077 : BitVec 32 := Scalar.addi v8076 c0_i32_2445
  v8077
def k0_off2 (k0_t1 : Fin k0_t1_loop.trips) (c0_i32_2445 : BitVec 32) : Fin 3 → Nat :=
  let c0_2446 : Index := 0#32
  let c0_2447 : Index := 0#32
  let c0_i32 : BitVec 32 := 0#32
  let c1_i32 : BitVec 32 := 1#32
  let arg13 : BitVec 32 := Scf.iv c0_i32 c1_i32 k0_t1
  let c256_i32_2444 : BitVec 32 := 256#32
  let v8076 : BitVec 32 := Scalar.muli arg13 c256_i32_2444
  let v8077 : BitVec 32 := Scalar.addi v8076 c0_i32_2445
  let v8078 : BitVec 32 := v8077
  let v8079 : Index := Scalar.indexCast v8078
  ![0, 0, v8079.toNat]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_2596 : BitVec 32 := 256#32
  let v8416 : BitVec 32 := Scalar.muli arg13 c256_i32_2596
  let c128_i32_2597 : BitVec 32 := 128#32
  let v8417 : BitVec 32 := Scalar.addi v8416 c128_i32_2597
  v8417
def k0_off3 (k0_t1 : Fin k0_t1_loop.trips) : Fin 3 → Nat :=
  let c0_2635 : Index := 0#32
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  let v7800 : BitVec 32 := v7799
  let v8495 : Index := Scalar.indexCast v7800
  let c256_2636 : Index := 256#32
  ![0, v8495.toNat, 256]
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_2756 : BitVec 32 := 256#32
  let v8770 : BitVec 32 := Scalar.muli arg13 c256_i32_2756
  let c0_i32_2757 : BitVec 32 := 0#32
  let v8771 : BitVec 32 := Scalar.addi v8770 c0_i32_2757
  v8771
def k0_off4 (k0_t1 : Fin k0_t1_loop.trips) (c0_i32_2757 : BitVec 32) : Fin 3 → Nat :=
  let c0_2758 : Index := 0#32
  let c8_2759 : Index := 8#32
  let c0_i32 : BitVec 32 := 0#32
  let c1_i32 : BitVec 32 := 1#32
  let arg13 : BitVec 32 := Scf.iv c0_i32 c1_i32 k0_t1
  let c256_i32_2756 : BitVec 32 := 256#32
  let v8770 : BitVec 32 := Scalar.muli arg13 c256_i32_2756
  let v8771 : BitVec 32 := Scalar.addi v8770 c0_i32_2757
  let v8772 : BitVec 32 := v8771
  let v8773 : Index := Scalar.indexCast v8772
  ![0, 8, v8773.toNat]
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_2908 : BitVec 32 := 256#32
  let v9110 : BitVec 32 := Scalar.muli arg13 c256_i32_2908
  let c128_i32_2909 : BitVec 32 := 128#32
  let v9111 : BitVec 32 := Scalar.addi v9110 c128_i32_2909
  v9111
def k0_off5 (k0_t1 : Fin k0_t1_loop.trips) : Fin 3 → Nat :=
  let c0_2947 : Index := 0#32
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  let v7800 : BitVec 32 := v7799
  let v9189 : Index := Scalar.indexCast v7800
  let c512_2948 : Index := 512#32
  ![0, v9189.toNat, 512]
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3068 : BitVec 32 := 256#32
  let v9464 : BitVec 32 := Scalar.muli arg13 c256_i32_3068
  let c0_i32_3069 : BitVec 32 := 0#32
  let v9465 : BitVec 32 := Scalar.addi v9464 c0_i32_3069
  v9465
def k0_off6 (k0_t1 : Fin k0_t1_loop.trips) (c0_i32_3069 : BitVec 32) : Fin 3 → Nat :=
  let c0_3070 : Index := 0#32
  let c16_3071 : Index := 16#32
  let c0_i32 : BitVec 32 := 0#32
  let c1_i32 : BitVec 32 := 1#32
  let arg13 : BitVec 32 := Scf.iv c0_i32 c1_i32 k0_t1
  let c256_i32_3068 : BitVec 32 := 256#32
  let v9464 : BitVec 32 := Scalar.muli arg13 c256_i32_3068
  let v9465 : BitVec 32 := Scalar.addi v9464 c0_i32_3069
  let v9466 : BitVec 32 := v9465
  let v9467 : Index := Scalar.indexCast v9466
  ![0, 16, v9467.toNat]
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3220 : BitVec 32 := 256#32
  let v9804 : BitVec 32 := Scalar.muli arg13 c256_i32_3220
  let c128_i32_3221 : BitVec 32 := 128#32
  let v9805 : BitVec 32 := Scalar.addi v9804 c128_i32_3221
  v9805
def k0_off7 (k0_t1 : Fin k0_t1_loop.trips) : Fin 3 → Nat :=
  let c0_3259 : Index := 0#32
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  let v7800 : BitVec 32 := v7799
  let v9883 : Index := Scalar.indexCast v7800
  let c768_3260 : Index := 768#32
  ![0, v9883.toNat, 768]
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3380 : BitVec 32 := 256#32
  let v10158 : BitVec 32 := Scalar.muli arg13 c256_i32_3380
  let c0_i32_3381 : BitVec 32 := 0#32
  let v10159 : BitVec 32 := Scalar.addi v10158 c0_i32_3381
  v10159
def k0_off8 (k0_t1 : Fin k0_t1_loop.trips) (c0_i32_3381 : BitVec 32) : Fin 3 → Nat :=
  let c0_3382 : Index := 0#32
  let c24_3383 : Index := 24#32
  let c0_i32 : BitVec 32 := 0#32
  let c1_i32 : BitVec 32 := 1#32
  let arg13 : BitVec 32 := Scf.iv c0_i32 c1_i32 k0_t1
  let c256_i32_3380 : BitVec 32 := 256#32
  let v10158 : BitVec 32 := Scalar.muli arg13 c256_i32_3380
  let v10159 : BitVec 32 := Scalar.addi v10158 c0_i32_3381
  let v10160 : BitVec 32 := v10159
  let v10161 : Index := Scalar.indexCast v10160
  ![0, 24, v10161.toNat]
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3532 : BitVec 32 := 256#32
  let v10498 : BitVec 32 := Scalar.muli arg13 c256_i32_3532
  let c128_i32_3533 : BitVec 32 := 128#32
  let v10499 : BitVec 32 := Scalar.addi v10498 c128_i32_3533
  v10499
def k0_off9 (k0_t1 : Fin k0_t1_loop.trips) : Fin 3 → Nat :=
  let c0_3571 : Index := 0#32
  let c0_i32 : BitVec 32 := 0#32
  let c1_i32 : BitVec 32 := 1#32
  let arg13 : BitVec 32 := Scf.iv c0_i32 c1_i32 k0_t1
  let c256_i32 : BitVec 32 := 256#32
  let v7799 : BitVec 32 := Scalar.muli arg13 c256_i32
  let v7800 : BitVec 32 := v7799
  let v10577 : Index := Scalar.indexCast v7800
  let c1024_3572 : Index := 1024#32
  ![0, v10577.toNat, 1024]
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3687 : BitVec 32 := 256#32
  let v10852 : BitVec 32 := Scalar.muli arg13 c256_i32_3687
  let c0_i32_3688 : BitVec 32 := 0#32
  let v10853 : BitVec 32 := Scalar.addi v10852 c0_i32_3688
  v10853
def k0_off10 (k0_t1 : Fin k0_t1_loop.trips) (c0_i32_3688 : BitVec 32) : Fin 3 → Nat :=
  let c0_3689 : Index := 0#32
  let c32_3690 : Index := 32#32
  let c0_i32 : BitVec 32 := 0#32
  let c1_i32 : BitVec 32 := 1#32
  let arg13 : BitVec 32 := Scf.iv c0_i32 c1_i32 k0_t1
  let c256_i32_3687 : BitVec 32 := 256#32
  let v10852 : BitVec 32 := Scalar.muli arg13 c256_i32_3687
  let v10853 : BitVec 32 := Scalar.addi v10852 c0_i32_3688
  let v10854 : BitVec 32 := v10853
  let v10855 : Index := Scalar.indexCast v10854
  ![0, 32, v10855.toNat]
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_3839 : BitVec 32 := 256#32
  let v11192 : BitVec 32 := Scalar.muli arg13 c256_i32_3839
  let c128_i32_3840 : BitVec 32 := 128#32
  let v11193 : BitVec 32 := Scalar.addi v11192 c128_i32_3840
  v11193
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x40x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_n" => some ((1 / 40960 : ℝ) : EReal)
  | "ln2_over_448" => some (((Real.log 2) * (1 / 448) : ℝ) : EReal)
  | "neg_ln2" => some ((-(Real.log 2) : ℝ) : EReal)
  | "neg_log2e" => some ((-((Real.log 2)⁻¹) : ℝ) : EReal)
  | _ => none
-- ==== ReferenceIdeal.lean ====
abbrev S16x1024x1280 : Shape := ⟨3, ![16, 1024, 1280]⟩
abbrev S1280 : Shape := ⟨1, ![1280]⟩
abbrev S16x1024x32x40 : Shape := ⟨4, ![16, 1024, 32, 40]⟩
abbrev S_ : Shape := ⟨0, ![]⟩
abbrev S16x32 : Shape := ⟨2, ![16, 32]⟩
abbrev S16x1x32x1 : Shape := ⟨4, ![16, 1, 32, 1]⟩
abbrev S1x1x1280 : Shape := ⟨3, ![1, 1, 1280]⟩
abbrev S16x1024x40x32 : Shape := ⟨4, ![16, 1024, 40, 32]⟩
abbrev S16x1024x40 : Shape := ⟨3, ![16, 1024, 40]⟩
abbrev S16x1024x40x1 : Shape := ⟨4, ![16, 1024, 40, 1]⟩

abbrev nBuf : Space → Nat
  | .hbm => 93
  | .vmem => 2
  | .smem => 0
  | _ => 0

abbrev bufTy : (tb : Table) → Fin (tcTables nBuf tb) → BufTy
  | .hbm, ⟨0, _⟩ => ⟨S16x1024x1280, .bf16⟩
  | .hbm, ⟨1, _⟩ => ⟨S1280, .f32⟩
  | .hbm, ⟨2, _⟩ => ⟨S1280, .f32⟩
  | .hbm, ⟨3, _⟩ => ⟨S16x1024x1280, .f32⟩
  | .hbm, ⟨4, _⟩ => ⟨S16x1024x32x40, .f32⟩
  | .hbm, ⟨5, _⟩ => ⟨S_, .f32⟩
  | .hbm, ⟨6, _⟩ => ⟨S16x32, .f32⟩
  | .hbm, ⟨7, _⟩ => ⟨S16x1x32x1, .f32⟩
  | .hbm, ⟨8, _⟩ => ⟨S_, .f32⟩
  | .hbm, ⟨9, _⟩ => ⟨S16x1x32x1, .f32⟩
  | .hbm, ⟨10, _⟩ => ⟨S16x1x32x1, .f32⟩
  | .hbm, ⟨11, _⟩ => ⟨S16x1024x32x40, .f32⟩
  | .hbm, ⟨12, _⟩ => ⟨S16x1024x32x40, .f32⟩
  | .hbm, ⟨13, _⟩ => ⟨S16x1024x32x40, .f32⟩
  | .hbm, ⟨14, _⟩ => ⟨S_, .f32⟩
  | .hbm, ⟨15, _⟩ => ⟨S16x32, .f32⟩
  | .hbm, ⟨16, _⟩ => ⟨S16x1x32x1, .f32⟩
  | .hbm, ⟨17, _⟩ => ⟨S_, .f32⟩
  | .hbm, ⟨18, _⟩ => ⟨S16x1x32x1, .f32⟩
  | .hbm, ⟨19, _⟩ => ⟨S16x1x32x1, .f32⟩
  | .hbm, ⟨20, _⟩ => ⟨S_, .f32⟩
  | .hbm, ⟨21, _⟩ => ⟨S16x1x32x1, .f32⟩
  | .hbm, ⟨22, _⟩ => ⟨S16x1x32x1, .f32⟩
  | .hbm, ⟨23, _⟩ => ⟨S16x1x32x1, .f32⟩
  | .hbm, ⟨24, _⟩ => ⟨S16x1024x32x40, .f32⟩
  | .hbm, ⟨25, _⟩ => ⟨S16x1024x32x40, .f32⟩
  | .hbm, ⟨26, _⟩ => ⟨S16x1024x1280, .f32⟩
  | .hbm, ⟨27, _⟩ => ⟨S1x1x1280, .f32⟩
  | .hbm, ⟨28, _⟩ => ⟨S16x1024x1280, .f32⟩
  | .hbm, ⟨29, _⟩ => ⟨S16x1024x1280, .f32⟩
  | .hbm, ⟨30, _⟩ => ⟨S1x1x1280, .f32⟩
  | .hbm, ⟨31, _⟩ => ⟨S16x1024x1280, .f32⟩
  | .hbm, ⟨32, _⟩ => ⟨S16x1024x1280, .f32⟩
  | .hbm, ⟨33, _⟩ => ⟨S16x1024x1280, .f32⟩
  | .hbm, ⟨34, _⟩ => ⟨S16x1024x1280, .f32⟩
  | .hbm, ⟨35, _⟩ => ⟨S_, .f32⟩
  | .hbm, ⟨36, _⟩ => ⟨S16x1024x1280, .f32⟩
  | .hbm, ⟨37, _⟩ => ⟨S16x1024x1280, .f32⟩
  | .hbm, ⟨38, _⟩ => ⟨S_, .f32⟩
  | .hbm, ⟨39, _⟩ => ⟨S16x1024x1280, .f32⟩
  | .hbm, ⟨40, _⟩ => ⟨S16x1024x1280, .f32⟩
  | .hbm, ⟨41, _⟩ => ⟨S16x1024x1280, .f32⟩
  | .hbm, ⟨42, _⟩ => ⟨S16x1024x40x32, .f32⟩
  | .hbm, ⟨43, _⟩ => ⟨S16x1024x40x32, .f32⟩
  | .hbm, ⟨44, _⟩ => ⟨S_, .f32⟩
  | .hbm, ⟨45, _⟩ => ⟨S16x1024x40, .f32⟩
  | .hbm, ⟨46, _⟩ => ⟨S16x1024x40x1, .f32⟩
  | .hbm, ⟨47, _⟩ => ⟨S_, .f32⟩
  | .hbm, ⟨48, _⟩ => ⟨S16x1024x40x1, .f32⟩
  | .hbm, ⟨49, _⟩ => ⟨S16x1024x40x1, .f32⟩
  | .hbm, ⟨50, _⟩ => ⟨S16x1024x40x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x1024x40x1, .f32⟩
  | .hbm, ⟨55, _⟩ => ⟨S16x1024x40x1, .f32⟩
  | .hbm, ⟨56, _⟩ => ⟨S16x1024x40x1, .f32⟩
  | .hbm, ⟨57, _⟩ => ⟨S_, .f32⟩
  | .hbm, ⟨58, _⟩ => ⟨S16x1024x40x1, .f32⟩
  | .hbm, ⟨59, _⟩ => ⟨S16x1024x40x1, .f32⟩
  | .hbm, ⟨60, _⟩ => ⟨S_, .f32⟩
  | .hbm, ⟨61, _⟩ => ⟨S16x1024x40x1, .f32⟩
  | .hbm, ⟨62, _⟩ => ⟨S16x1024x40x1, .f32⟩
  | .hbm, ⟨63, _⟩ => ⟨S16x1024x40x1, .i32⟩
  | .hbm, ⟨64, _⟩ => ⟨S_, .f32⟩
  | .hbm, ⟨65, _⟩ => ⟨S16x1024x40x1, .f32⟩
  | .hbm, ⟨66, _⟩ => ⟨S16x1024x40x1, .i1⟩
  | .hbm, ⟨67, _⟩ => ⟨S_, .i32⟩
  | .hbm, ⟨68, _⟩ => ⟨S_, .i32⟩
  | .hbm, ⟨69, _⟩ => ⟨S16x1024x40x1, .i32⟩
  | .hbm, ⟨70, _⟩ => ⟨S16x1024x40x1, .i32⟩
  | .hbm, ⟨71, _⟩ => ⟨S16x1024x40x1, .f32⟩
  | .hbm, ⟨72, _⟩ => ⟨S16x1024x40x1, .f32⟩
  | .hbm, ⟨73, _⟩ => ⟨S_, .f32⟩
  | .hbm, ⟨74, _⟩ => ⟨S16x1024x40x1, .f32⟩
  | .hbm, ⟨75, _⟩ => ⟨S16x1024x40x1, .f32⟩
  | .hbm, ⟨76, _⟩ => ⟨S16x1024x40x32, .f32⟩
  | .hbm, ⟨77, _⟩ => ⟨S16x1024x40x32, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S16x1024x40x32, .f32⟩
  | .hbm, ⟨82, _⟩ => ⟨S16x1024x40x32, .f32⟩
  | .hbm, ⟨83, _⟩ => ⟨S_, .f32⟩
  | .hbm, ⟨84, _⟩ => ⟨S16x1024x40x32, .f32⟩
  | .hbm, ⟨85, _⟩ => ⟨S16x1024x40x32, .f32⟩
  | .hbm, ⟨86, _⟩ => ⟨S16x1024x1280, .f32⟩
  | .hbm, ⟨87, _⟩ => ⟨S16x1024x40, .i32⟩
  | .hbm, ⟨88, _⟩ => ⟨S_, .i32⟩
  | .hbm, ⟨89, _⟩ => ⟨S16x1024x40, .i32⟩
  | .hbm, ⟨90, _⟩ => ⟨S16x1024x40, .i32⟩
  | .hbm, ⟨91, _⟩ => ⟨S16x1024x40, .i8⟩
  | .hbm, ⟨92, _⟩ => ⟨S16x1024x1280, .fp8e4m3⟩
  | .local _ .vmem, ⟨0, _⟩ => ⟨S16x1024x1280, .f32⟩
  | .local _ .vmem, ⟨1, _⟩ => ⟨S16x1024x1280, .fp8e4m3⟩
  | _, _ => ⟨S16x1024x1280, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_call0_v0 : Ref sig .tc := ⟨.hbm, 68, rfl⟩
abbrev main_call0_v1 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_cst_14 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x1024x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Cmd.lean ====
/- The kernel body as a small command tree: loads and stores of twelve named buffers, read two ways.
   `Cmd.toProg` reads it as a program of the machine, `Cmd.run` as a function on the buffers' contents;
   `Cmd.sound` (Proof.Sound) says the first computes the second. -/
module

public import Idealize.ShloMosaic.Lib.Pipeline
public import Idealize.ShloMosaic.Lib.Scf
public import Idealize.ShloMosaic.Lib.Sig
public import Idealize.ShloMosaic.Lib.Memref
public import Idealize.ShloMosaic.Lib.Tactic
public import Idealize.ShloMosaic.PureOps
public import Idealize.ShloMosaic.PureOps.Ideal

@[expose] public section

noncomputable section

namespace Cert.Gn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers -/

/-- The kernel's twelve buffers: four inputs, two outputs, six of scratch. -/
inductive B | x | ind | gam | bet | codes | scale | xt | a | b | red | inv | stat
  deriving DecidableEq

instance : Fintype B where
  elems := {.x, .ind, .gam, .bet, .codes, .scale, .xt, .a, .b, .red, .inv, .stat}
  complete b := by cases b <;> decide

/-- A buffer's shape. -/
@[reducible] def B.s : B → Shape
  | .x => ⟨3, ![1, 1024, 1280]⟩
  | .ind => ⟨2, ![32, 1280]⟩
  | .gam => ⟨2, ![1280, 128]⟩
  | .bet => ⟨2, ![1280, 128]⟩
  | .codes => ⟨3, ![1, 1024, 1280]⟩
  | .scale => ⟨3, ![1, 40, 1024]⟩
  | .xt => ⟨2, ![256, 256]⟩
  | .a => ⟨2, ![1280, 128]⟩
  | .b => ⟨2, ![1280, 128]⟩
  | .red => ⟨2, ![8, 128]⟩
  | .inv => ⟨2, ![8, 128]⟩
  | .stat => ⟨3, ![2, 32, 128]⟩

/-- A buffer's element type. -/
@[reducible] def B.e : B → EltTy
  | .x => .bf16
  | .codes => .fp8e4m3
  | .scale => .i32
  | _ => .f32

/-! ## Commands -/

variable {Val : EltTy → Type} {α β γ : Type}

/-- A store's rectangle keeps the buffer's packing: whole words at a 32-bit element type, packed rows at
    a narrower one. -/
def StOk (b : B) (r : Rect b.s) : Prop := b.e.bits = 32 ∨ r.PackedRows b.e.packing

/-- A rectangle of 32-bit elements may be stored. -/
theorem ok32 {b : B} {r : Rect b.s} (h : b.e.bits = 32) : StOk b r := .inl h
/-- A rectangle of whole packed rows may be stored. -/
theorem okPacked {b : B} {r : Rect b.s} (h : r.PackedRows b.e.packing) : StOk b r := .inr h

/-- Loads and stores through rectangles of the buffers, in sequence, ending in a value. -/
inductive Cmd (Val : EltTy → Type) (α : Type) : Type
  | ret (v : α) : Cmd Val α
  | ld (b : B) (r : Rect b.s) (h : 0 < r.shape.numel) (k : (r.shape.Idx → Val b.e) → Cmd Val α) : Cmd Val α
  | st (b : B) (r : Rect b.s) (h : 0 < r.shape.numel) (ok : StOk b r) (w : r.shape.Idx → Val b.e) (k : Cmd Val α) :
      Cmd Val α

/-- One command after another. -/
def Cmd.bind : Cmd Val α → (α → Cmd Val β) → Cmd Val β
  | .ret v, k => k v
  | .ld b r h c, k => .ld b r h fun v => (c v).bind k
  | .st b r h ok w c, k => .st b r h ok w (c.bind k)

instance : Monad (Cmd Val) where
  pure := Cmd.ret
  bind := Cmd.bind

/-- One load, of what it reads. -/
def load (b : B) (r : Rect b.s) (h : 0 < r.shape.numel) : Cmd Val (r.shape.Idx → Val b.e) := .ld b r h .ret

/-- One store. -/
def store (b : B) (r : Rect b.s) (h : 0 < r.shape.numel) (ok : StOk b r) (w : r.shape.Idx → Val b.e) : Cmd Val PUnit :=
  .st b r h ok w (.ret ⟨⟩)

/-- `n` steps from the accumulator `v`. -/
def fold : (n : ℕ) → (Fin n → α → Cmd Val α) → α → Cmd Val α
  | 0, _, v => .ret v
  | n + 1, f, v => (f 0 v).bind fun v' => fold n (fun i => f i.succ) v'

/-- `n` commands in order, with their values. -/
def tab : (n : ℕ) → (Fin n → Cmd Val α) → Cmd Val (Fin n → α)
  | 0, _ => .ret Fin.elim0
  | n + 1, f => (f 0).bind fun v => (tab n fun i => f i.succ).bind fun g => .ret (Fin.cons v g)

/-! ## The two readings -/

/-- The contents of the buffers. -/
abbrev St (Val : EltTy → Type) : Type := (b : B) → b.s.Idx → Val b.e

/-- The contents after a store. -/
def St.upd (σ : St Val) (b : B) (r : Rect b.s) (w : r.shape.Idx → Val b.e) : St Val :=
  Function.update σ b (r.overlay (σ b) w)

/-- A command as a function of the contents. -/
def Cmd.run : Cmd Val α → St Val → α × St Val
  | .ret v, σ => (v, σ)
  | .ld b r _ k, σ => (k fun j => σ b (r.emb j)).run σ
  | .st b r _ _ w k, σ => k.run (σ.upd b r w)

/-- Returning a value runs nothing. -/
@[simp] theorem run_ret (v : α) (σ : St Val) : (Cmd.ret v).run σ = (v, σ) := rfl

/-- The run of a command followed by another is the run of the other from where the first ends. -/
theorem run_bind (p : Cmd Val α) (k : α → Cmd Val β) (σ : St Val) :
    (p.bind k).run σ = (k (p.run σ).1).run (p.run σ).2 := by
  induction p generalizing σ with
  | ret v => rfl
  | ld b r h c ih => exact ih _ σ
  | st b r h ok w c ih => exact ih _

section Prog

variable {nD : Nat} {τ : Topo} {sig : RefSig} {Λ : Labels}

/-- The buffers' memrefs. -/
abbrev Mems (sig : RefSig) : Type := (b : B) → Memref sig .tc .vmem b.s b.e

/-- Such a rectangle of a whole buffer is stored in full. -/
theorem stores_of (M : Mems sig) (hM : ∀ b, (M b).IsWhole) (b : B) (r : Rect b.s) (h : 0 < r.shape.numel) (ok : StOk b r) :
    ((M b).access r).Stores Finset.univ := by
  rcases ok with h32 | hp
  · exact View.stores_vmem_bits_univ h h32
  · exact View.stores_vmem h ((hM b).storeExact_slice rfl _ hp) (fun _ => rfl)

/-- A command as a program of the machine. -/
def Cmd.toProg (M : Mems sig) (hM : ∀ b, (M b).IsWhole) : Cmd Val α → Prog (TpuEff nD τ sig Val Λ .tc) α
  | .ret v => .ret v
  | .ld b r h k => .op (.load (M b) r.toLoadRect (View.loadsAt_vmem h)) fun v => (k v).toProg M hM
  | .st b r h ok w k => .op (.store (M b) r w Finset.univ (stores_of M hM b r h ok) (.inl rfl)) fun _ => k.toProg M hM

/-- A command followed by another is the first's program followed by the other's. -/
theorem toProg_bind (M : Mems sig) (hM : ∀ b, (M b).IsWhole) (p : Cmd Val α) (k : α → Cmd Val β) :
    ((p.bind k).toProg M hM : Prog (TpuEff nD τ sig Val Λ .tc) β) = p.toProg M hM >>= fun v => (k v).toProg M hM := by
  induction p with
  | ret v => rfl
  | ld b r h c ih => exact congrArg (Prog.op _) (funext fun v => ih v)
  | st b r h ok w c ih => exact congrArg (Prog.op _) (funext fun _ => ih)

end Prog

end Cert.Gn

end
-- ==== Proof.Sound.lean ====
/- A command run as a program of the machine, on buffers owned whole, leaves the contents the command
   computes as a function. -/
module

public import proofs.«01_k».proof.Proof.Cmd
public import Idealize.ShloMosaic.Lib.Writes

@[expose] public section

noncomputable section

namespace Cert.Gn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Val : EltTy → Type} {α : Type}
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix Val Name U Lvl

/-- What a buffer reads after an unmasked store through a rectangle: the old contents overlaid. -/
theorem read_store {s : Shape} {e : EltTy} (m : Memref sig .tc .vmem s e) (f : m.view.ty.Contents Val) (r : Rect s)
    (w : r.shape.Idx → Val e) : m.view.read Val (m.view.writes Val f [⟨r, w⟩]) = r.overlay (m.view.read Val f) w := by
  funext y
  by_cases hy : y ∈ r.set
  · obtain ⟨x, rfl⟩ := r.exists_idx_of_mem hy
    exact (View.read_writes_cons_emb _ f r w [] x).trans (Rect.overlay_emb r _ w x).symm
  · rw [View.read_writes_cons_miss _ f ⟨r, w⟩ [] y hy, Rect.overlay_of_not_mem r _ w hy]; rfl

/-- The core owns the twelve buffers at the contents `σ`. -/
def own (c : Dev nD) (M : Mems sig) (σ : St Val) : sProp 𝕄 :=
  bigSep Finset.univ fun b : B => owns (c : Thread nD τ) (M b) fullShare (σ b)

/-- One buffer aside. -/
theorem own_take (c : Dev nD) (M : Mems sig) (σ : St Val) (b : B) :
    (own c M σ : sProp 𝕄) = iprop(owns (c : Thread nD τ) (M b) fullShare (σ b)
      ∗ bigSep (Finset.univ.erase b) fun b : B => owns (c : Thread nD τ) (M b) fullShare (σ b)) :=
  bigSep_erase (Finset.mem_univ b)

/-- One buffer put back with new contents. -/
theorem own_put (c : Dev nD) (M : Mems sig) (σ : St Val) (b : B) (X : b.s.Idx → Val b.e) :
    (own c M (Function.update σ b X) : sProp 𝕄) = iprop(owns (c : Thread nD τ) (M b) fullShare X
      ∗ bigSep (Finset.univ.erase b) fun b : B => owns (c : Thread nD τ) (M b) fullShare (σ b)) := by
  rw [own_take c M _ b, Function.update_self,
    bigSep_congr (Ψ := fun b : B => owns (c : Thread nD τ) (M b) fullShare (σ b))]
  intro i hi
  rw [Function.update_of_ne (Finset.ne_of_mem_erase hi)]

/-- The program a command reads as, on buffers held at `σ`, continues holding them at what the command
    makes of `σ`, with the value it makes. -/
theorem Cmd.sound (defs : Defs nD τ sig Val Λ) (𝒱 : Variants) (c : Dev nD) (bd : Option 𝒱.V) (E : Set Name)
    (M : Mems sig) (hM : ∀ b, (M b).IsWhole) (p : Cmd Val α) (σ : St Val) (Q : α → sProp 𝕄) :
    iprop(own c M σ ∗ (own c M (p.run σ).2 -∗ Q (p.run σ).1))
      ⊢ wp frame (wpE defs 𝒱 (c : Thread nD τ) bd) E (p.toProg M hM) Q := by
  induction p generalizing σ with
  | ret v =>
    unfold Cmd.toProg
    rw [run_ret]
    iintro ⟨Ho, Hk⟩
    sl_step
    iapply Hk
    iexact Ho
  | ld b r h k ih =>
    unfold Cmd.toProg
    rw [own_take c M σ b]
    unfold owns
    iintro ⟨⟨⟨%f, %hf, Hb⟩, Hr⟩, Hk⟩
    iapply (wp_load 𝒱 (c : Thread nD τ) bd E (S := (M b).view.set) (View.setOn_subset_set _ _)) $$ Hb
    iintro Hb
    iapply (ih _ σ)
    isplitr [Hk]
    · rw [own_take c M σ b]
      isplitl [Hb]
      · unfold owns; iexists f; isplitr
        · ipureintro; exact hf
        iexact Hb
      unfold owns
      iexact Hr
    have e : (M b).view.readAt Val r.toLoadRect f = fun j => σ b (r.emb j) := by
      funext j; rw [← hf]; rfl
    rw [e]
    iexact Hk
  | st b r h ok w k ih =>
    unfold Cmd.toProg
    rw [own_take c M σ b]
    unfold owns
    iintro ⟨⟨⟨%f, %hf, Hb⟩, Hr⟩, Hk⟩
    iapply (wp_store_writes₀ 𝒱 (c : Thread nD τ) bd E (S := (M b).view.set) (f := f) (Memref.setOn_access_subset _ _ _)) $$ Hb
    iintro Hb
    iapply (ih (σ.upd b r w))
    isplitr [Hk]
    · unfold St.upd
      rw [own_put c M σ b]
      isplitl [Hb]
      · unfold owns; iexists _; isplitr
        swap; · iexact Hb
        ipureintro
        rw [read_store, hf]
      unfold owns
      iexact Hr
    iexact Hk

/-! ## A counted loop of commands -/

/-- A loop over mapped indices is the loop whose body maps them. -/
theorem forFrom_map.{v} {E : Type → Type v} {σ : Type} {n k : ℕ} (body : Fin n → σ → Prog E σ) (g : Fin k → Fin n) :
    ∀ (l : List (Fin k)) (v : σ), Scf.forFrom body (l.map g) v = Scf.forFrom (fun i => body (g i)) l v
  | [], _ => rfl
  | i :: l, v => by
    rw [List.map_cons, Scf.forFrom_cons, Scf.forFrom_cons]
    exact congrArg _ (funext fun v' => forFrom_map body g l v')

/-- A fold of commands is, as a program, a loop. -/
theorem toProg_fold (M : Mems sig) (hM : ∀ b, (M b).IsWhole) : ∀ (n : ℕ) (f : Fin n → α → Cmd Val α) (v : α),
    ((fold n f v).toProg M hM : Prog (TpuEff nD τ sig Val Λ .tc) α)
      = Scf.forFrom (fun i a => (f i a).toProg M hM) (List.finRange n) v
  | 0, _, _ => rfl
  | n + 1, f, v => by
    unfold fold
    rw [toProg_bind, List.finRange_succ, Scf.forFrom_cons]
    refine congrArg _ (funext fun v' => ?_)
    rw [forFrom_map]
    exact toProg_fold M hM n (fun i => f i.succ) v'

/-- A counted loop of commands is the fold of the commands. -/
theorem toProg_for (M : Mems sig) (hM : ∀ b, (M b).IsWhole) {w n : ℕ} (l : Scf.Loop w) (hok : l.OK) (hn : l.trips = n)
    (f : Fin n → α → Cmd Val α) (v : α) :
    (Scf.Loop.for l hok v (fun t a => (f ⟨t.val, Nat.lt_of_lt_of_eq t.isLt hn⟩ a).toProg M hM) : Prog (TpuEff nD τ sig Val Λ .tc) α)
      = (fold n f v).toProg M hM := by
  subst hn
  rw [toProg_fold]
  exact Scf.for_eq ..

end Cert.Gn

end
-- ==== Proof.Body.lean ====
/- The kernel body written with loops, over the buffers of `Proof.Cmd`: the sums over 64 row blocks of ten
   column chunks, the group statistics, the 32 groups' scale and shift rows, then four row tiles of five
   column groups of two lane halves of eight quantisation blocks. -/
module

public import proofs.«01_k».proof.Proof.Cmd

@[expose] public section

noncomputable section

namespace Cert.Gn

open Idealize.ShloMosaic Idealize.SL.Sem

abbrev S32 : Shape := ⟨1, ![32]⟩
abbrev S32x1 : Shape := ⟨2, ![32, 1]⟩
abbrev S32x1280 : Shape := ⟨2, ![32, 1280]⟩
abbrev S1280x128 : Shape := ⟨2, ![1280, 128]⟩
abbrev S1x1024x1280 : Shape := ⟨3, ![1, 1024, 1280]⟩
abbrev S1x40x1024 : Shape := ⟨3, ![1, 40, 1024]⟩
abbrev S256x256 : Shape := ⟨2, ![256, 256]⟩
abbrev S8x128 : Shape := ⟨2, ![8, 128]⟩
abbrev S2x32x128 : Shape := ⟨3, ![2, 32, 128]⟩
abbrev S1x16x128 : Shape := ⟨3, ![1, 16, 128]⟩
abbrev S16x128 : Shape := ⟨2, ![16, 128]⟩
abbrev S8x1280 : Shape := ⟨2, ![8, 1280]⟩
abbrev S16x1280 : Shape := ⟨2, ![16, 1280]⟩
abbrev S32x16 : Shape := ⟨2, ![32, 16]⟩
abbrev S32x8 : Shape := ⟨2, ![32, 8]⟩
abbrev S32x128 : Shape := ⟨2, ![32, 128]⟩
abbrev S1x32x128 : Shape := ⟨3, ![1, 32, 128]⟩
abbrev S1x1x128 : Shape := ⟨3, ![1, 1, 128]⟩
abbrev S1x128 : Shape := ⟨2, ![1, 128]⟩
abbrev S40x128 : Shape := ⟨2, ![40, 128]⟩
abbrev S1x256x256 : Shape := ⟨3, ![1, 256, 256]⟩
abbrev S128 : Shape := ⟨1, ![128]⟩
abbrev S1x8x128 : Shape := ⟨3, ![1, 8, 128]⟩
abbrev S256x128 : Shape := ⟨2, ![256, 128]⟩

abbrev dotGroups : DotDims S32x1280 S16x1280 S32x16 where
  lhsContracting := [1]
  rhsContracting := [1]
  lhsNonContracting := [0]
  rhsNonContracting := [0]
  lhsBatch := []
  rhsBatch := []
  wf := by decide
abbrev dotTile : DotDims S256x256 S256x256 S256x256 where
  lhsContracting := [1]
  rhsContracting := [1]
  lhsNonContracting := [0]
  rhsNonContracting := [0]
  lhsBatch := []
  rhsBatch := []
  wf := by decide

/-- The shape is not empty. -/
theorem pos_S1x16x128 : 0 < S1x16x128.numel := by decide
/-- The shape is not empty. -/
theorem pos_S1x32x128 : 0 < S1x32x128.numel := by decide
/-- The shape is not empty. -/
theorem pos_S32x1280 : 0 < S32x1280.numel := by decide
/-- The shape is not empty. -/
theorem pos_S1x1x128 : 0 < S1x1x128.numel := by decide
/-- The shape is not empty. -/
theorem pos_S40x128 : 0 < S40x128.numel := by decide
/-- The shape is not empty. -/
theorem pos_S32x128 : 0 < S32x128.numel := by decide
/-- The shape is not empty. -/
theorem pos_S1x128 : 0 < S1x128.numel := by decide
/-- The shape is not empty. -/
theorem pos_S8x128 : 0 < S8x128.numel := by decide
/-- The shape is not empty. -/
theorem pos_S1x8x128 : 0 < S1x8x128.numel := by decide
/-- The shape is not empty. -/
theorem pos_S256x256 : 0 < S256x256.numel := by decide
/-- The shape is not empty. -/
theorem pos_S1x256x256 : 0 < S1x256x256.numel := by decide
/-- Ten column groups make a row of channels. -/
theorem cat10 : Shape.Concatenates [S8x128, S8x128, S8x128, S8x128, S8x128, S8x128, S8x128, S8x128, S8x128, S8x128] S8x1280 1 := by
  decide
/-- The sums over the sums of squares. -/
theorem cat2 : Shape.Concatenates [S8x1280, S8x1280] S16x1280 0 := by decide
/-- Eight blocks make a lane half. -/
theorem cat8 : Shape.Concatenates [S32x128, S32x128, S32x128, S32x128, S32x128, S32x128, S32x128, S32x128] S256x128 0 := by decide
/-- Two lane halves make a tile. -/
theorem catHalves : Shape.Concatenates [S256x128, S256x128] S256x256 1 := by decide
/-- bfloat16 is narrower than float32. -/
theorem bf16_lt : FTy.bits .bf16 < FTy.bits .f32 := by decide
/-- float8 is narrower than float32. -/
theorem fp8_lt : FTy.bits .fp8e4m3 < FTy.bits .f32 := by decide

variable {F : FTy → Type} [FloatOps F]

/-- The kernel's four rounded constants: `-log₂ e`, `ln 2 / 448`, `-ln 2` and `1 / 40960`. -/
structure Consts (F : FTy → Type) where
  negLog2e : F .f32
  ln2Over448 : F .f32
  negLn2 : F .f32
  invN : F .f32

/-! ## The sums -/

abbrev rX (c : Fin 10) (k : Fin 64) : Rect B.x.s :=
  Rect.unit (s := S1x1024x1280) ![0, 16 * k.val, 128 * c.val] S1x16x128.size (by
    intro i; have := c.2; have := k.2; fin_cases i <;> simp <;> omega)

/-- Rows `16 k … 16 k + 15` of lanes `128 c … 128 c + 127`, as two halves of eight rows. -/
def halves (v : Vec F S1x16x128 .bf16) : FVec F S8x128 .f32 × FVec F S8x128 .f32 :=
  (extractStridedSlice S8x128 ![0, 0] (extf .f32 (shapeCast S16x128 v (by decide)) bf16_lt) (by decide),
    extractStridedSlice S8x128 ![8, 0] (extf .f32 (shapeCast S16x128 v (by decide)) bf16_lt) (by decide))

/-- Column chunk `c`: the running sum of squares and the running sum, a register of 8 rows each. -/
def sums (c : Fin 10) : Cmd (Elt F) (FVec F S8x128 .f32 × FVec F S8x128 .f32) := do
  let v ← load .x (rX c 0) pos_S1x16x128
  fold 63 (fun k acc => do
      let v ← load .x (rX c k.succ) pos_S1x16x128
      pure (addf (addf acc.1 (mulf (halves v).1 (halves v).1)) (mulf (halves v).2 (halves v).2),
        addf (addf acc.2 (halves v).1) (halves v).2))
    (addf (mulf (halves v).1 (halves v).1) (mulf (halves v).2 (halves v).2), addf (halves v).1 (halves v).2)

/-! ## The group statistics -/

/-- The sums of the groups' lanes: for each group, eight partial sums and eight partial sums of squares. -/
def groupSums (g : Fin 10 → FVec F S8x128 .f32 × FVec F S8x128 .f32) (ind : Vec F S32x1280 .f32) : FVec F S32x16 .f32 :=
  matmul dotGroups (some .fp32) (shapeCast S32x1280 ind (by decide))
    (concatenate S16x1280 0
      [⟨S8x1280, concatenate S8x1280 1 [⟨S8x128, (g 0).2⟩, ⟨S8x128, (g 1).2⟩, ⟨S8x128, (g 2).2⟩, ⟨S8x128, (g 3).2⟩, ⟨S8x128, (g 4).2⟩,
          ⟨S8x128, (g 5).2⟩, ⟨S8x128, (g 6).2⟩, ⟨S8x128, (g 7).2⟩, ⟨S8x128, (g 8).2⟩, ⟨S8x128, (g 9).2⟩] cat10⟩,
        ⟨S8x1280, concatenate S8x1280 1 [⟨S8x128, (g 0).1⟩, ⟨S8x128, (g 1).1⟩, ⟨S8x128, (g 2).1⟩, ⟨S8x128, (g 3).1⟩, ⟨S8x128, (g 4).1⟩,
          ⟨S8x128, (g 5).1⟩, ⟨S8x128, (g 6).1⟩, ⟨S8x128, (g 7).1⟩, ⟨S8x128, (g 8).1⟩, ⟨S8x128, (g 9).1⟩] cat10⟩] cat2)
    (constant S32x16 .f32 0x00000000#32)

variable (K : Consts F)

/-- The groups' means. -/
def means (s : FVec F S32x16 .f32) : FVec F S32x1 .f32 :=
  mulf (shapeCast S32x1 (multiReduction .add [1] S32 (extractStridedSlice S32x8 ![0, 0] s (by decide)) 0x00000000#32 (by decide) (.inl rfl) rfl) (by decide))
    (broadcast S32x1 K.invN)

/-- The groups' reciprocal standard deviations. -/
def rstds (s : FVec F S32x16 .f32) : FVec F S32x1 .f32 :=
  rsqrt (addf (maximumf (subf
      (mulf (shapeCast S32x1 (multiReduction .add [1] S32 (extractStridedSlice S32x8 ![0, 8] s (by decide)) 0x00000000#32 (by decide) (.inl rfl) rfl) (by decide))
        (broadcast S32x1 K.invN))
      (mulf (means K s) (means K s))) (broadcast S32x1 (Scalar.ofBits .f32 0x00000000#32)))
    (broadcast S32x1 (Scalar.ofBits .f32 0x3727C5AC#32)))

/-- A column of 32 group values along 128 lanes. -/
def lanes (v : FVec F S32x1 .f32) : FVec F S1x32x128 .f32 :=
  shapeCast S1x32x128 (broadcastTo S32x128 (shapeCast S32x1 v (by decide)) (by decide)) (by decide)

abbrev rStat (i : Fin 2) : Rect B.stat.s :=
  Rect.unit (s := S2x32x128) ![i.val, 0, 0] S1x32x128.size (by
    intro a; have := i.2; fin_cases a <;> simp <;> omega)

/-- The sums, then the means and reciprocal standard deviations into `stat`. -/
def stats : Cmd (Elt F) PUnit := do
  let g ← tab 10 sums
  let ind ← load .ind (Rect.unit (s := S32x1280) ![0, 0] S32x1280.size (by decide)) pos_S32x1280
  let _ ← load .stat (rStat 0) pos_S1x32x128
  store .stat (rStat 0) pos_S1x32x128 (ok32 rfl) (lanes (means K (groupSums g ind)))
  let _ ← load .stat (rStat 1) pos_S1x32x128
  store .stat (rStat 1) pos_S1x32x128 (ok32 rfl) (lanes (rstds K (groupSums g ind)))

/-! ## The groups' scale and shift rows -/

abbrev rStatRow (i : Fin 2) (g : Fin 32) : Rect B.stat.s :=
  Rect.unit (s := S2x32x128) ![i.val, g.val, 0] S1x1x128.size (by
    intro a; have := i.2; have := g.2; fin_cases a <;> simp <;> omega)

abbrev rRows (g : Fin 32) : Rect S1280x128 :=
  Rect.unit (s := S1280x128) ![40 * g.val, 0] S40x128.size (by
    intro a; have := g.2; fin_cases a <;> simp <;> omega)

/-- A group's 40 scale rows, from its reciprocal standard deviation and the rows of `gam`. -/
def aRows (rs : Vec F S1x1x128 .f32) (gam : Vec F S40x128 .f32) : FVec F S40x128 .f32 :=
  mulf (mulf (shapeCast S40x128 gam (by decide)) (broadcast S40x128 K.negLog2e))
    (broadcastTo S40x128 (shapeCast S1x128 rs (by decide)) (by decide))

/-- A group's 40 shift rows, from its scale rows, its mean and the rows of `bet`. -/
def bRows (a : FVec F S40x128 .f32) (mean : Vec F S1x1x128 .f32) (bet : Vec F S40x128 .f32) : FVec F S40x128 .f32 :=
  subf (mulf (shapeCast S40x128 bet (by decide)) (broadcast S40x128 K.negLog2e))
    (mulf a (broadcastTo S40x128 (shapeCast S1x128 mean (by decide)) (by decide)))

/-- Group `g`'s rows of `a` and `b`. -/
def group (g : Fin 32) : Cmd (Elt F) PUnit := do
  let mean ← load .stat (rStatRow 0 g) pos_S1x1x128
  let rs ← load .stat (rStatRow 1 g) pos_S1x1x128
  let gam ← load .gam (rRows g) pos_S40x128
  let _ ← load .a (rRows g) pos_S40x128
  store .a (rRows g) pos_S40x128 (ok32 rfl) (shapeCast S40x128 (aRows K rs gam) (by decide))
  let bet ← load .bet (rRows g) pos_S40x128
  let _ ← load .b (rRows g) pos_S40x128
  store .b (rRows g) pos_S40x128 (ok32 rfl) (shapeCast S40x128 (bRows K (aRows K rs gam) mean bet) (by decide))

/-! ## The row tiles -/

/-- The offset of tile `t`'s rows and column group `cg`'s lanes. -/
def xOff (t : ℕ) (cg : Fin 5) : Fin 3 → ℕ :=
  ![0, (Scalar.indexCast (Scalar.muli (Scf.iv 0#32 1#32 t) 256#32)).toNat, 256 * cg.val]

/-- The offset of tile `t`'s lane half `h` in the scales, at column group `cg`. -/
def sOff (t : ℕ) (cg : Fin 5) (h : Fin 2) : Fin 3 → ℕ :=
  ![0, 8 * cg.val, (Scalar.indexCast (Scalar.addi (Scalar.muli (Scf.iv 0#32 1#32 t) 256#32) (BitVec.ofNat 32 (128 * h.val)))).toNat]

/-- Each tile lies within the sample's rows and channels. -/
theorem xOff_inb : ∀ (t : Fin 4) (cg : Fin 5) (a : Fin 3), xOff t cg a + S1x256x256.size a ≤ S1x1024x1280.size a := by
  decide +kernel
/-- Each piece of scales lies within the scales' block. -/
theorem sOff_inb : ∀ (t : Fin 4) (cg : Fin 5) (h : Fin 2) (a : Fin 3), sOff t cg h a + S1x8x128.size a ≤ S1x40x1024.size a := by
  decide +kernel

abbrev rTile (t : Fin 4) (cg : Fin 5) : Rect S1x1024x1280 :=
  Rect.unit (s := S1x1024x1280) (xOff t cg) S1x256x256.size (xOff_inb t cg)
abbrev rScale (t : Fin 4) (cg : Fin 5) (h : Fin 2) : Rect B.scale.s :=
  Rect.unit (s := S1x40x1024) (sOff t cg h) S1x8x128.size (sOff_inb t cg h)
abbrev rXt (h : Fin 2) (j : Fin 8) : Rect B.xt.s :=
  Rect.unit (s := S256x256) ![32 * j.val, 128 * h.val] S32x128.size (by
    intro a; have := j.2; have := h.2; fin_cases a <;> simp <;> omega)
abbrev rAb (cg : Fin 5) (j : Fin 8) : Rect S1280x128 :=
  Rect.unit (s := S1280x128) ![256 * cg.val + 32 * j.val, 0] S32x128.size (by
    intro a; have := j.2; have := cg.2; fin_cases a <;> simp <;> omega)
abbrev rRow (j : Fin 8) : Rect S8x128 :=
  Rect.unit (s := S8x128) ![j.val, 0] S1x128.size (by
    intro a; have := j.2; fin_cases a <;> simp <;> omega)
abbrev rAll : Rect S256x256 := Rect.unit (s := S256x256) ![0, 0] S256x256.size (by decide)
abbrev rRed : Rect S8x128 := Rect.unit (s := S8x128) ![0, 0] S8x128.size (by decide)

/-- The stores of the codes cover whole packed rows. -/
theorem tile_packed : ∀ (t : Fin 4) (cg : Fin 5), (rTile t cg).PackedRows (EltTy.packing .fp8e4m3) := by
  decide +kernel

/-- The diagonal mask of a 256 by 256 tile. -/
def diag : IVec S256x256 1 :=
  cmpi .eq (iota .tc S256x256 32 [0] (by decide)) (iota .tc S256x256 32 [1] (by decide))

/-- The identity tile, at the two narrow types. -/
def eye16 : FVec F S256x256 .bf16 := truncf .bf16 (sitofp .f32 (extui 32 diag (by decide))) bf16_lt
def eye8 : FVec F S256x256 .fp8e4m3 := truncf .fp8e4m3 (sitofp .f32 (extui 32 diag (by decide))) fp8_lt

/-- `w · 1/(1 + 2^w)` at `w = a·x + b`. -/
def act (xt a b : Vec F S32x128 .f32) : FVec F S32x128 .f32 :=
  mulf (addf (mulf xt a) b)
    (divf (broadcast S32x128 (Scalar.ofBits .f32 0x3F800000#32))
      (addf (broadcast S32x128 (Scalar.ofBits .f32 0x3F800000#32)) (exp2 (addf (mulf xt a) b))))

/-- The greatest magnitude of each lane's 32 rows. -/
def amax (u : FVec F S32x128 .f32) : FVec F S1x128 .f32 :=
  shapeCast S1x128 (multiReduction .maximumf [0] S128
    (maximumf
      (maximumf (extractStridedSlice S8x128 ![0, 0] (absf u) (by decide)) (extractStridedSlice S8x128 ![8, 0] (absf u) (by decide)))
      (maximumf (extractStridedSlice S8x128 ![16, 0] (absf u) (by decide)) (extractStridedSlice S8x128 ![24, 0] (absf u) (by decide))))
    0xFF800000#32 (by decide) (.inl rfl) rfl) (by decide)

/-- One step of the search for the exponent field: raise `e` by `p` if the float of that field is at most `t`. -/
def raise (t : FVec F S8x128 .f32) (p : BitVec 32) (e : IVec S8x128 32) : IVec S8x128 32 :=
  select (cmpf .ole (bitcastToFloat .f32 (shli (addi e (broadcast S8x128 p)) (broadcast S8x128 23#32))) t)
    (addi e (broadcast S8x128 p)) e

/-- The exponent field of `t`, bit by bit from the top. -/
def expField (t : FVec F S8x128 .f32) : IVec S8x128 32 :=
  raise t 1#32 (raise t 2#32 (raise t 4#32 (raise t 8#32 (raise t 16#32 (raise t 32#32 (raise t 64#32 (raise t 128#32
    (broadcast S8x128 0#32))))))))

/-- The scales' exponent fields from the blocks' greatest magnitudes. -/
def fields (m : Vec F S8x128 .f32) : IVec S8x128 32 :=
  select (cmpf .oeq (mulf m (broadcast S8x128 K.ln2Over448)) (broadcast S8x128 (Scalar.ofBits .f32 0x00000000#32)))
    (broadcast S8x128 126#32) (expField (mulf m (broadcast S8x128 K.ln2Over448)))

/-- The factors the blocks are multiplied by before rounding. -/
def factors (ef : IVec S8x128 32) : FVec F S8x128 .f32 :=
  mulf (bitcastToFloat .f32 (shli (subi (broadcast S8x128 253#32) ef) (broadcast S8x128 23#32))) (broadcast S8x128 K.negLn2)

/-- A block's codes. -/
def quant (u : FVec F S32x128 .f32) (f : Vec F S1x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf u (broadcastTo S32x128 f (by decide))))) fp8_lt

/-- Block `j` of lane half `h`: its activations, and its greatest magnitudes into row `j` of `red`. -/
def block (cg : Fin 5) (h : Fin 2) (j : Fin 8) : Cmd (Elt F) (FVec F S32x128 .f32) := do
  let xt ← load .xt (rXt h j) pos_S32x128
  let a ← load .a (rAb cg j) pos_S32x128
  let b ← load .b (rAb cg j) pos_S32x128
  let _ ← load .red (rRow j) pos_S1x128
  store .red (rRow j) pos_S1x128 (ok32 rfl) (shapeCast S1x128 (amax (act xt a b)) (by decide))
  pure (act xt a b)

/-- Lane half `h` of column group `cg`: eight blocks, their scales, their codes. -/
def half (t : Fin 4) (cg : Fin 5) (h : Fin 2) : Cmd (Elt F) (FVec F S256x128 .fp8e4m3) := do
  let u ← tab 8 (block cg h)
  let m ← load .red rRed pos_S8x128
  let _ ← load .inv rRed pos_S8x128
  store .inv rRed pos_S8x128 (ok32 rfl) (shapeCast S8x128 (factors K (fields K m)) (by decide))
  let _ ← load .scale (rScale t cg h) pos_S1x8x128
  store .scale (rScale t cg h) pos_S1x8x128 (ok32 rfl)
    (shapeCast S1x8x128 (addi (fields K m) (broadcast S8x128 1#32)) (by decide))
  let q ← tab 8 fun j => do
    let f ← load .inv (rRow j) pos_S1x128
    pure (quant (u j) f)
  pure (concatenate S256x128 0 [⟨S32x128, q 0⟩, ⟨S32x128, q 1⟩, ⟨S32x128, q 2⟩, ⟨S32x128, q 3⟩, ⟨S32x128, q 4⟩, ⟨S32x128, q 5⟩,
    ⟨S32x128, q 6⟩, ⟨S32x128, q 7⟩] cat8)

/-- The tile's rows as lanes: the identity tile times the rows, contracted on the lanes. -/
def flip16 (v : Vec F S1x256x256 .bf16) : FVec F S256x256 .f32 :=
  matmul dotTile none eye16 (shapeCast S256x256 v (by decide)) (constant S256x256 .f32 0x00000000#32)

/-- The codes of a tile's two halves, as rows again. -/
def flip8 (q0 q1 : FVec F S256x128 .fp8e4m3) : FVec F S256x256 .fp8e4m3 :=
  truncf .fp8e4m3 (matmul dotTile none eye8 (concatenate S256x256 1 [⟨S256x128, q0⟩, ⟨S256x128, q1⟩] catHalves)
    (constant S256x256 .f32 0x00000000#32)) fp8_lt

/-- Column group `cg` of tile `t`. -/
def column (t : Fin 4) (cg : Fin 5) : Cmd (Elt F) PUnit := do
  let v ← load .x (rTile t cg) pos_S1x256x256
  let _ ← load .xt rAll pos_S256x256
  store .xt rAll pos_S256x256 (ok32 rfl)
    (shapeCast S256x256 (flip16 v) (by decide))
  let q0 ← half K t cg 0
  let q1 ← half K t cg 1
  let _ ← load .codes (rTile t cg) pos_S1x256x256
  store .codes (rTile t cg) pos_S1x256x256 (okPacked (tile_packed t cg)) (shapeCast S1x256x256 (flip8 q0 q1) (by decide))

/-- Tile `t`. -/
def tile (t : Fin 4) : Cmd (Elt F) PUnit := fold 5 (fun cg _ => column K t cg) ⟨⟩

/-- What precedes the tiles. -/
def prelude : Cmd (Elt F) PUnit := do
  stats K
  fold 32 (fun g _ => group K g) ⟨⟩

/-- The whole body. -/
def body : Cmd (Elt F) PUnit := do
  prelude K
  fold 4 (fun t _ => tile K t) ⟨⟩

end Cert.Gn

end
-- ==== Proof.Run.lean ====
/- What the body computes, as functions of its four inputs: whatever the scratch and the results held before. -/
module

public import proofs.«01_k».proof.Proof.Body

@[expose] public section

noncomputable section

namespace Cert.Gn

open Idealize.ShloMosaic Idealize.SL.Sem

/-! ## Runs of `fold` and `tab` -/

section Loops

variable {Val : EltTy → Type} {α β : Type}

/-- A sequence of commands is their bind. -/
theorem bind_def (p : Cmd Val α) (k : α → Cmd Val β) : (p >>= k) = p.bind k := rfl
/-- The command that only returns. -/
theorem pure_def (v : α) : (pure v : Cmd Val α) = .ret v := rfl
/-- A load reads its rectangle and changes nothing. -/
theorem run_load (b : B) (r : Rect b.s) (h) (σ : St Val) : (load b r h).run σ = (fun j => σ b (r.emb j), σ) := rfl
/-- A store replaces its rectangle. -/
theorem run_store (b : B) (r : Rect b.s) (h) (ok) (w : r.shape.Idx → Val b.e) (σ : St Val) :
    (store b r h ok w).run σ = (⟨⟩, σ.upd b r w) := rfl

/-- A buffer after a store to it. -/
theorem upd_self (σ : St Val) (b : B) (r : Rect b.s) (w : r.shape.Idx → Val b.e) : σ.upd b r w b = r.overlay (σ b) w :=
  Function.update_self ..
/-- A buffer after a store to another. -/
theorem upd_ne (σ : St Val) {b b' : B} (hb : b' ≠ b) (r : Rect b.s) (w : r.shape.Idx → Val b.e) : σ.upd b r w b' = σ b' :=
  Function.update_of_ne hb ..

/-- `n` steps of a function. -/
def steps : (n : ℕ) → (Fin n → α → α) → α → α
  | 0, _, v => v
  | n + 1, f, v => steps n (fun i => f i.succ) (f 0 v)

/-- A loop that leaves the contents alone. -/
theorem run_fold_pure (σ : St Val) : ∀ (n : ℕ) (f : Fin n → α → Cmd Val α) (g : Fin n → α → α)
    (_ : ∀ i v, (f i v).run σ = (g i v, σ)) (v : α), (fold n f v).run σ = (steps n g v, σ)
  | 0, _, _, _, _ => rfl
  | n + 1, f, g, h, v => by
    unfold fold steps
    rw [run_bind, h]
    exact run_fold_pure σ n _ _ (fun i v => h i.succ v) _

/-- An invariant of the contents, counted by the steps done. -/
theorem run_fold (P : ℕ → St Val → Prop) : ∀ (n k : ℕ) (f : Fin n → α → Cmd Val α)
    (_ : ∀ (i : Fin n) v σ, P (k + i.val) σ → P (k + i.val + 1) ((f i v).run σ).2) (v : α) (σ : St Val), P k σ →
    P (k + n) ((fold n f v).run σ).2
  | 0, _, _, _, _, _, h => h
  | n + 1, k, f, hs, v, σ, h => by
    unfold fold
    rw [run_bind]
    have := run_fold P n (k + 1) (fun i => f i.succ) (fun i v σ h => by
      have := hs i.succ v σ (by rw [Fin.val_succ]; rwa [show k + (i.val + 1) = k + 1 + i.val by omega])
      rwa [Fin.val_succ, show k + (i.val + 1) + 1 = k + 1 + i.val + 1 by omega] at this) ((f 0 v).run σ).1 _ (hs 0 v σ h)
    rwa [show k + 1 + n = k + (n + 1) by omega] at this

/-- The same of a list of commands, with what each returns. -/
theorem run_tab (P : ℕ → St Val → Prop) : ∀ (n k : ℕ) (f : Fin n → Cmd Val α) (v : Fin n → α)
    (_ : ∀ (i : Fin n) σ, P (k + i.val) σ → ((f i).run σ).1 = v i ∧ P (k + i.val + 1) ((f i).run σ).2) (σ : St Val), P k σ →
    ((tab n f).run σ).1 = v ∧ P (k + n) ((tab n f).run σ).2
  | 0, _, _, _, _, _, h => ⟨funext fun i => i.elim0, h⟩
  | n + 1, k, f, v, hs, σ, h => by
    unfold tab
    rw [run_bind, run_bind, run_ret]
    have h0 := hs 0 σ h
    have := run_tab P n (k + 1) (fun i => f i.succ) (fun i => v i.succ) (fun i σ h => by
      have := hs i.succ σ (by rw [Fin.val_succ]; rwa [show k + (i.val + 1) = k + 1 + i.val by omega])
      rwa [Fin.val_succ, show k + (i.val + 1) + 1 = k + 1 + i.val + 1 by omega] at this) _ h0.2
    refine ⟨?_, by rw [show k + (n + 1) = k + 1 + n by omega]; exact this.2⟩
    funext i
    refine Fin.cases ?_ (fun i => ?_) i
    · exact h0.1
    · exact congrFun this.1 i

end Loops

/-! ## Contents put together from pieces -/

section Glue

variable {s : Shape} {ι α : Type}

/-- What a rectangle of the contents holds. -/
abbrev pick (r : Rect s) (X : s.Idx → α) : r.shape.Idx → α := fun j => X (r.emb j)

/-- Every index lies in some rectangle. -/
def Cov (r : ι → Rect s) : Prop := ∀ y, ∃ i k, (r i).emb k = y

/-- Different rectangles share no index. -/
def Apart (r : ι → Rect s) : Prop := ∀ i j k k', (r i).emb k = (r j).emb k' → i = j

/-- The contents whose rectangles hold `w`. -/
def glue {r : ι → Rect s} (h : Cov r) (w : ∀ i, (r i).shape.Idx → α) : s.Idx → α :=
  fun y => w (h y).choose (h y).choose_spec.choose

/-- Contents put together from pieces hold, at each index, what some piece holds there. -/
theorem glue_spec {r : ι → Rect s} (h : Cov r) (w : ∀ i, (r i).shape.Idx → α) (y : s.Idx) :
    ∃ i k, (r i).emb k = y ∧ glue h w y = w i k :=
  ⟨_, _, (h y).choose_spec.choose_spec, rfl⟩

/-- The rectangles `D` of the contents hold `w`. -/
def Filled (r : ι → Rect s) (w : ∀ i, (r i).shape.Idx → α) (D : ι → Prop) (X : s.Idx → α) : Prop :=
  ∀ i, D i → ∀ k, X ((r i).emb k) = w i k

/-- Contents whose every piece is filled are put together from the pieces. -/
theorem Filled.eq_glue {r : ι → Rect s} (h : Cov r) {w : ∀ i, (r i).shape.Idx → α} {D : ι → Prop} {X : s.Idx → α}
    (hX : Filled r w D X) (hD : ∀ i, D i) : X = glue h w := by
  funext y
  obtain ⟨i, k, rfl, e⟩ := glue_spec h w y
  rw [e]; exact hX i (hD i) k

/-- A piece laid over the contents is filled, and those filled before still are. -/
theorem Filled.overlay {r : ι → Rect s} (ha : Apart r) {w : ∀ i, (r i).shape.Idx → α} {D D' : ι → Prop} {X : s.Idx → α}
    (hX : Filled r w D X) (i : ι) (hD : ∀ j, D' j → D j ∨ j = i) : Filled r w D' ((r i).overlay X (w i)) := by
  intro j hj k
  by_cases e : j = i
  · subst e; exact Rect.overlay_emb _ _ _ _
  · rw [Rect.overlay_of_not_mem]
    · exact hX j ((hD j hj).resolve_right e) k
    · intro hm
      obtain ⟨k', hk'⟩ := (r i).exists_idx_of_mem hm
      exact e (ha j i k k' hk'.symm)

/-- No piece need be filled at the start. -/
theorem filled_none (r : ι → Rect s) (w : ∀ i, (r i).shape.Idx → α) {D : ι → Prop} (X : s.Idx → α) (h : ∀ i, ¬ D i) : Filled r w D X :=
  fun i hi => absurd hi (h i)

/-- A rectangle of the whole shape replaces everything. -/
theorem overlay_full {off : Fin s.rank → ℕ} (inb : ∀ a, off a + s.size a ≤ s.size a) (X w : s.Idx → α) :
    (Rect.unit off s.size inb).overlay X w = w := by
  funext y
  have h : (Rect.unit off s.size inb).emb y = y := funext fun a => Fin.ext (by
    show off a + 1 * (y a).val = (y a).val
    have := inb a; omega)
  conv_lhs => rw [← h]
  exact Rect.overlay_emb _ _ _ _

end Glue

/-! ## The rectangles tile their buffers -/

/-- A unit-stride rectangle's index, placed. -/
theorem emb_val {s : Shape} (off size : Fin s.rank → ℕ) (inb) (k : (Rect.unit (s := s) off size inb).shape.Idx) (a : Fin s.rank) :
    ((Rect.unit off size inb).emb k a).val = off a + (k a).val := by
  show off a + 1 * (k a).val = _; omega

/-- A tile's offset in closed form. -/
theorem xOff_eq : ∀ (t : Fin 4) (cg : Fin 5) (a : Fin 3), xOff t cg a = (![0, 256 * t.val, 256 * cg.val] : Fin 3 → ℕ) a := by decide +kernel
/-- A piece of scales' offset in closed form. -/
theorem sOff_eq : ∀ (t : Fin 4) (cg : Fin 5) (h : Fin 2) (a : Fin 3),
    sOff t cg h a = (![0, 8 * cg.val, 256 * t.val + 128 * h.val] : Fin 3 → ℕ) a := by decide +kernel

/-- Two placed indices with the same value have the same coordinates. -/
theorem coord_eq {s : Shape} {off off' size size' : Fin s.rank → ℕ} {inb inb'} {k : (Rect.unit (s := s) off size inb).shape.Idx}
    {k' : (Rect.unit (s := s) off' size' inb').shape.Idx} (h : (Rect.unit off size inb).emb k = (Rect.unit off' size' inb').emb k') (a : Fin s.rank) :
    off a + (k a).val = off' a + (k' a).val := by
  have := congrArg (fun y : s.Idx => (y a).val) h
  simpa only [emb_val] using this

/-- The two statistics share no index. -/
theorem apart_stat : Apart rStat := fun i j k k' h => by
  have h0 := coord_eq h 0
  have := (k 0).isLt; have := (k' 0).isLt
  simp at *; omega
/-- The two statistics cover their buffer. -/
theorem cov_stat : Cov rStat := fun y => ⟨y 0, fun | 0 => ⟨0, by simp⟩ | 1 => y 1 | 2 => y 2, funext fun a => Fin.ext (by
  rw [emb_val]; fin_cases a <;> simp)⟩

/-- The groups' rows share no index. -/
theorem apart_rows : Apart rRows := fun i j k k' h => by
  have h0 := coord_eq h 0
  have := (k 0).isLt; have := (k' 0).isLt
  simp at *; omega
/-- The groups' rows cover their buffer. -/
theorem cov_rows : Cov rRows := fun y => by
  have h0 : (y 0).val / 40 < 32 := by have := (y 0).isLt; simp at this; omega
  have h1 : (y 0).val % 40 < 40 := Nat.mod_lt _ (by decide)
  refine ⟨⟨(y 0).val / 40, h0⟩, fun | 0 => ⟨(y 0).val % 40, h1⟩ | 1 => y 1, funext fun a => Fin.ext ?_⟩
  rw [emb_val]; fin_cases a <;> simp <;> omega

/-- The blocks' rows share no index. -/
theorem apart_row : Apart rRow := fun i j k k' h => by
  have h0 := coord_eq h 0
  have := (k 0).isLt; have := (k' 0).isLt
  simp at *; omega
/-- The blocks' rows cover their buffer. -/
theorem cov_row : Cov rRow := fun y => ⟨y 0, fun | 0 => ⟨0, by simp⟩ | 1 => y 1, funext fun a => Fin.ext (by
  rw [emb_val]; fin_cases a <;> simp)⟩

/-- The tiles, and the scales' pieces, as families. -/
abbrev rTiles (p : Fin 4 × Fin 5) : Rect S1x1024x1280 := rTile p.1 p.2
abbrev rScales (p : Fin 4 × Fin 5 × Fin 2) : Rect B.scale.s := rScale p.1 p.2.1 p.2.2

/-- The tiles share no index. -/
theorem apart_tiles : Apart rTiles := fun i j k k' h => by
  have h1 := coord_eq h 1
  have h2 := coord_eq h 2
  rw [xOff_eq, xOff_eq] at h1 h2
  have := (k 1).isLt; have := (k' 1).isLt; have := (k 2).isLt; have := (k' 2).isLt
  obtain ⟨i0, i1⟩ := i; obtain ⟨j0, j1⟩ := j
  simp at *; omega
/-- The tiles cover the sample's codes. -/
theorem cov_tiles : Cov rTiles := fun y => by
  have h1 : (y 1).val / 256 < 4 := by have := (y 1).isLt; simp at this; omega
  have h2 : (y 2).val / 256 < 5 := by have := (y 2).isLt; simp at this; omega
  have h3 : (y 1).val % 256 < 256 := Nat.mod_lt _ (by decide)
  have h4 : (y 2).val % 256 < 256 := Nat.mod_lt _ (by decide)
  refine ⟨(⟨(y 1).val / 256, h1⟩, ⟨(y 2).val / 256, h2⟩), fun | 0 => y 0 | 1 => ⟨(y 1).val % 256, h3⟩ | 2 => ⟨(y 2).val % 256, h4⟩,
    funext fun a => Fin.ext ?_⟩
  rw [emb_val, xOff_eq]; fin_cases a <;> simp <;> omega

/-- The pieces of scales share no index. -/
theorem apart_scales : Apart rScales := fun i j k k' h => by
  have h1 := coord_eq h 1
  have h2 := coord_eq h 2
  rw [sOff_eq, sOff_eq] at h1 h2
  have := (k 1).isLt; have := (k' 1).isLt; have := (k 2).isLt; have := (k' 2).isLt
  obtain ⟨i0, i1, i2⟩ := i; obtain ⟨j0, j1, j2⟩ := j
  simp at *; omega
/-- The pieces of scales cover the sample's scales. -/
theorem cov_scales : Cov rScales := fun y => by
  have h1 : (y 2).val / 256 < 4 := by have := (y 2).isLt; simp at this; omega
  have h2 : (y 1).val / 8 < 5 := by have := (y 1).isLt; simp at this; omega
  have h3 : (y 2).val % 256 / 128 < 2 := by omega
  have h4 : (y 1).val % 8 < 8 := Nat.mod_lt _ (by decide)
  have h5 : (y 2).val % 128 < 128 := Nat.mod_lt _ (by decide)
  refine ⟨(⟨(y 2).val / 256, h1⟩, ⟨(y 1).val / 8, h2⟩, ⟨(y 2).val % 256 / 128, h3⟩),
    fun | 0 => y 0 | 1 => ⟨(y 1).val % 8, h4⟩ | 2 => ⟨(y 2).val % 128, h5⟩, funext fun a => Fin.ext ?_⟩
  rw [emb_val, sOff_eq]; fin_cases a <;> simp <;> omega

/-! ## What the body computes -/

variable {F : FTy → Type} [FloatOps F] (K : Consts F)
variable (x : Vec F S1x1024x1280 .bf16) (ind : Vec F S32x1280 .f32) (gam bet : Vec F S1280x128 .f32)

/-- Column chunk `c`'s sums of squares and sums. -/
def sumsV (c : Fin 10) : FVec F S8x128 .f32 × FVec F S8x128 .f32 :=
  steps 63 (fun k acc =>
      (addf (addf acc.1 (mulf (halves (pick (rX c k.succ) x)).1 (halves (pick (rX c k.succ) x)).1))
          (mulf (halves (pick (rX c k.succ) x)).2 (halves (pick (rX c k.succ) x)).2),
        addf (addf acc.2 (halves (pick (rX c k.succ) x)).1) (halves (pick (rX c k.succ) x)).2))
    (addf (mulf (halves (pick (rX c 0) x)).1 (halves (pick (rX c 0) x)).1) (mulf (halves (pick (rX c 0) x)).2 (halves (pick (rX c 0) x)).2),
      addf (halves (pick (rX c 0) x)).1 (halves (pick (rX c 0) x)).2)

/-- The groups' means and reciprocal standard deviations along the lanes. -/
def statW (i : Fin 2) : FVec F S1x32x128 .f32 :=
  if i = 0 then lanes (means K (groupSums (sumsV x) ind)) else lanes (rstds K (groupSums (sumsV x) ind))
def statV : Vec F S2x32x128 .f32 := glue cov_stat (statW K x ind)

/-- The scale rows and the shift rows. -/
def aW (g : Fin 32) : FVec F S40x128 .f32 :=
  shapeCast S40x128 (aRows K (pick (rStatRow 1 g) (statV K x ind)) (pick (rRows g) gam)) (by decide)
def bW (g : Fin 32) : FVec F S40x128 .f32 :=
  shapeCast S40x128 (bRows K (aRows K (pick (rStatRow 1 g) (statV K x ind)) (pick (rRows g) gam)) (pick (rStatRow 0 g) (statV K x ind))
    (pick (rRows g) bet)) (by decide)
def aV : Vec F S1280x128 .f32 := glue cov_rows (aW K x ind gam)
def bV : Vec F S1280x128 .f32 := glue cov_rows (bW K x ind gam bet)

/-- A tile's rows as lanes. -/
def xtV (t : Fin 4) (cg : Fin 5) : Vec F S256x256 .f32 := shapeCast S256x256 (flip16 (pick (rTile t cg) x)) (by decide)

/-- Block `j`'s activations. -/
def uV (t : Fin 4) (cg : Fin 5) (h : Fin 2) (j : Fin 8) : FVec F S32x128 .f32 :=
  act (pick (rXt h j) (xtV x t cg)) (pick (rAb cg j) (aV K x ind gam)) (pick (rAb cg j) (bV K x ind gam bet))

/-- The blocks' greatest magnitudes. -/
def redW (t : Fin 4) (cg : Fin 5) (h : Fin 2) (j : Fin 8) : FVec F S1x128 .f32 :=
  shapeCast S1x128 (amax (uV K x ind gam bet t cg h j)) (by decide)
def redV (t : Fin 4) (cg : Fin 5) (h : Fin 2) : Vec F S8x128 .f32 := glue cov_row (redW K x ind gam bet t cg h)

/-- The blocks' exponent fields, and the factors they give. -/
def efV (t : Fin 4) (cg : Fin 5) (h : Fin 2) : IVec S8x128 32 := fields K (pick rRed (redV K x ind gam bet t cg h))
def invV (t : Fin 4) (cg : Fin 5) (h : Fin 2) : Vec F S8x128 .f32 := shapeCast S8x128 (factors K (efV K x ind gam bet t cg h)) (by decide)

/-- A lane half's codes. -/
def halfV (t : Fin 4) (cg : Fin 5) (h : Fin 2) : FVec F S256x128 .fp8e4m3 :=
  concatenate S256x128 0 [⟨S32x128, quant (uV K x ind gam bet t cg h 0) (pick (rRow 0) (invV K x ind gam bet t cg h))⟩,
    ⟨S32x128, quant (uV K x ind gam bet t cg h 1) (pick (rRow 1) (invV K x ind gam bet t cg h))⟩,
    ⟨S32x128, quant (uV K x ind gam bet t cg h 2) (pick (rRow 2) (invV K x ind gam bet t cg h))⟩,
    ⟨S32x128, quant (uV K x ind gam bet t cg h 3) (pick (rRow 3) (invV K x ind gam bet t cg h))⟩,
    ⟨S32x128, quant (uV K x ind gam bet t cg h 4) (pick (rRow 4) (invV K x ind gam bet t cg h))⟩,
    ⟨S32x128, quant (uV K x ind gam bet t cg h 5) (pick (rRow 5) (invV K x ind gam bet t cg h))⟩,
    ⟨S32x128, quant (uV K x ind gam bet t cg h 6) (pick (rRow 6) (invV K x ind gam bet t cg h))⟩,
    ⟨S32x128, quant (uV K x ind gam bet t cg h 7) (pick (rRow 7) (invV K x ind gam bet t cg h))⟩] cat8

/-- The results, piece by piece and whole. -/
def codesW (p : Fin 4 × Fin 5) : FVec F S1x256x256 .fp8e4m3 :=
  shapeCast S1x256x256 (flip8 (halfV K x ind gam bet p.1 p.2 0) (halfV K x ind gam bet p.1 p.2 1)) (by decide)
def scaleW (p : Fin 4 × Fin 5 × Fin 2) : IVec S1x8x128 32 :=
  shapeCast S1x8x128 (addi (efV K x ind gam bet p.1 p.2.1 p.2.2) (broadcast S8x128 1#32)) (by decide)
def codesV : Vec F S1x1024x1280 .fp8e4m3 := glue cov_tiles (codesW K x ind gam bet)
def scaleV : S1x40x1024.Idx → BitVec 32 := glue cov_scales (scaleW K x ind gam bet)

/-! ## The body computes it -/

/-- A column group's sums read the sample and change nothing. -/
theorem run_sums (c : Fin 10) (σ : St (Elt F)) : (sums c).run σ = (sumsV (σ .x) c, σ) := by
  unfold sums sumsV
  simp only [bind_def, run_bind, load, Cmd.run]
  exact run_fold_pure σ 63 _ _ (fun _ _ => rfl) _

/-- The inputs as they were. -/
structure Same (σ σ' : St (Elt F)) : Prop where
  x : σ' .x = σ .x
  ind : σ' .ind = σ .ind
  gam : σ' .gam = σ .gam
  bet : σ' .bet = σ .bet

/-- The inputs are the same where nothing runs. -/
theorem Same.refl (σ : St (Elt F)) : Same σ σ := ⟨rfl, rfl, rfl, rfl⟩
/-- The inputs stay the same through two steps. -/
theorem Same.trans {σ σ' σ'' : St (Elt F)} (h : Same σ σ') (h' : Same σ' σ'') : Same σ σ'' :=
  ⟨h'.x.trans h.x, h'.ind.trans h.ind, h'.gam.trans h.gam, h'.bet.trans h.bet⟩
/-- A store elsewhere leaves the inputs the same. -/
theorem Same.upd (σ : St (Elt F)) (b : B) (hb : b ≠ .x ∧ b ≠ .ind ∧ b ≠ .gam ∧ b ≠ .bet) (r : Rect b.s) (w : r.shape.Idx → Elt F b.e) :
    Same σ (σ.upd b r w) :=
  ⟨upd_ne _ hb.1.symm .., upd_ne _ hb.2.1.symm .., upd_ne _ hb.2.2.1.symm .., upd_ne _ hb.2.2.2.symm ..⟩

/-- The statistics end as stated, the inputs the same. -/
theorem run_stats (σ : St (Elt F)) :
    Same σ ((stats K).run σ).2 ∧ ((stats K).run σ).2 .stat = statV K (σ .x) (σ .ind) := by
  have ht := run_tab (fun _ σ' => σ' = σ) 10 0 (sums (F := F)) (sumsV (σ .x)) (fun i σ' h => by
    subst h; rw [run_sums]; exact ⟨rfl, rfl⟩) σ rfl
  unfold stats
  simp only [bind_def, run_bind, load, store, Cmd.run, ht.1, ht.2]
  refine ⟨(Same.upd _ _ (by decide) _ _).trans (Same.upd _ _ (by decide) _ _), ?_⟩
  have e : (fun j => σ .ind ((Rect.unit (s := S32x1280) ![0, 0] S32x1280.size (by decide)).emb j)) = σ .ind := by
    funext j; congr 1; funext a; apply Fin.ext; rw [emb_val]; fin_cases a <;> simp
  rw [upd_self, upd_self]
  have key : ∀ Y : Vec F S32x1280 .f32, Y = σ .ind → (rStat 1).overlay ((rStat 0).overlay (σ .stat) (lanes (means K (groupSums (sumsV (σ .x)) Y))))
      (lanes (rstds K (groupSums (sumsV (σ .x)) Y))) = statV K (σ .x) (σ .ind) := by
    rintro _ rfl
    have h0 := (filled_none rStat (statW K (σ .x) (σ .ind)) (D := fun _ => False) (σ .stat) (fun _ h => h)).overlay apart_stat
      (D' := fun i => i = 0) 0 (fun _ h => .inr h)
    have h1 := h0.overlay apart_stat (D' := fun _ => True) 1 (fun j _ => by
      have := j.2; rw [Fin.ext_iff, Fin.ext_iff]; simp; omega)
    exact h1.eq_glue cov_stat fun _ => trivial
  exact key _ e

/-- After the first `n` groups' rows. -/
structure RowsDone (σ₀ : St (Elt F)) (n : ℕ) (σ : St (Elt F)) : Prop where
  same : Same σ₀ σ
  stat : σ .stat = statV K (σ₀ .x) (σ₀ .ind)
  a : Filled rRows (aW K (σ₀ .x) (σ₀ .ind) (σ₀ .gam)) (fun g => g.val < n) (σ .a)
  b : Filled rRows (bW K (σ₀ .x) (σ₀ .ind) (σ₀ .gam) (σ₀ .bet)) (fun g => g.val < n) (σ .b)

/-- A group's rows are added to those done. -/
theorem run_group (σ₀ σ : St (Elt F)) (g : Fin 32) (h : RowsDone K σ₀ g.val σ) : RowsDone K σ₀ (g.val + 1) ((group K g).run σ).2 := by
  unfold group
  simp only [bind_def, run_bind, load, store, Cmd.run]
  refine ⟨h.same.trans ((Same.upd _ _ (by decide) _ _).trans (Same.upd _ _ (by decide) _ _)), ?_, ?_, ?_⟩
  · rw [upd_ne _ (by decide), upd_ne _ (by decide), h.stat]
  · rw [upd_ne _ (by decide), upd_self, h.stat, h.same.gam]
    exact h.a.overlay apart_rows g fun j hj => by rw [Fin.ext_iff]; omega
  · rw [upd_self, upd_ne _ (by decide), upd_ne _ (by decide), h.stat, h.same.gam, h.same.bet]
    exact h.b.overlay apart_rows g fun j hj => by rw [Fin.ext_iff]; omega

/-- The prelude ends with all 32 groups' rows done. -/
theorem run_prelude (σ : St (Elt F)) : RowsDone K σ 32 ((prelude K).run σ).2 := by
  unfold prelude
  simp only [bind_def, run_bind]
  have h := run_stats K σ
  have := run_fold (RowsDone K σ) 32 0 (fun g (_ : PUnit) => group K g) (fun g v σ' h => by
    rw [Nat.zero_add] at h ⊢; exact run_group K σ σ' g h) ⟨⟩ ((stats K).run σ).2
    ⟨h.1, h.2, filled_none _ _ _ (fun _ => Nat.not_lt_zero _), filled_none _ _ _ (fun _ => Nat.not_lt_zero _)⟩
  rwa [Nat.zero_add] at this

/-- What the tiles read: the inputs, the scale rows and the shift rows. -/
structure Ready (σ₀ σ : St (Elt F)) : Prop where
  same : Same σ₀ σ
  a : σ .a = aV K (σ₀ .x) (σ₀ .ind) (σ₀ .gam)
  b : σ .b = bV K (σ₀ .x) (σ₀ .ind) (σ₀ .gam) (σ₀ .bet)

/-- A store to another buffer leaves the tiles their inputs. -/
theorem Ready.upd {σ₀ σ : St (Elt F)} (h : Ready K σ₀ σ) (b : B)
    (hb : (b ≠ .x ∧ b ≠ .ind ∧ b ≠ .gam ∧ b ≠ .bet) ∧ b ≠ .a ∧ b ≠ .b) (r : Rect b.s) (w : r.shape.Idx → Elt F b.e) :
    Ready K σ₀ (σ.upd b r w) :=
  ⟨h.same.trans (Same.upd σ b hb.1 r w), (upd_ne σ hb.2.1.symm r w).trans h.a, (upd_ne σ hb.2.2.symm r w).trans h.b⟩

/-- After the first `n` blocks of a lane half. -/
structure BlocksDone (σ₀ : St (Elt F)) (t : Fin 4) (cg : Fin 5) (h : Fin 2) (C : B.codes.s.Idx → Elt F B.codes.e)
    (S : B.scale.s.Idx → Elt F B.scale.e) (n : ℕ) (σ : St (Elt F)) : Prop where
  ready : Ready K σ₀ σ
  xt : σ .xt = xtV (σ₀ .x) t cg
  codes : σ .codes = C
  scale : σ .scale = S
  red : Filled rRow (redW K (σ₀ .x) (σ₀ .ind) (σ₀ .gam) (σ₀ .bet) t cg h) (fun j => j.val < n) (σ .red)

/-- A block's activations, and its greatest magnitudes added to those done. -/
theorem run_block (σ₀ σ : St (Elt F)) (t : Fin 4) (cg : Fin 5) (h : Fin 2) (C S) (j : Fin 8) (hσ : BlocksDone K σ₀ t cg h C S j.val σ) :
    ((block cg h j).run σ).1 = uV K (σ₀ .x) (σ₀ .ind) (σ₀ .gam) (σ₀ .bet) t cg h j
      ∧ BlocksDone K σ₀ t cg h C S (j.val + 1) ((block cg h j).run σ).2 := by
  unfold block
  simp only [bind_def, run_bind, load, store, Cmd.run, pure_def, run_ret, hσ.xt, hσ.ready.a, hσ.ready.b]
  refine ⟨rfl, hσ.ready.upd K _ (by decide) _ _, ?_, ?_, ?_, ?_⟩
  · rw [upd_ne _ (by decide), hσ.xt]
  · rw [upd_ne _ (by decide), hσ.codes]
  · rw [upd_ne _ (by decide), hσ.scale]
  · rw [upd_self]
    exact hσ.red.overlay apart_row j fun i hi => by rw [Fin.ext_iff]; omega

/-- A lane half returns its codes and leaves its scales. -/
theorem run_half (σ₀ σ : St (Elt F)) (t : Fin 4) (cg : Fin 5) (h : Fin 2) (hr : Ready K σ₀ σ) (hx : σ .xt = xtV (σ₀ .x) t cg) :
    ((half K t cg h).run σ).1 = halfV K (σ₀ .x) (σ₀ .ind) (σ₀ .gam) (σ₀ .bet) t cg h
      ∧ Ready K σ₀ ((half K t cg h).run σ).2
      ∧ ((half K t cg h).run σ).2 .xt = xtV (σ₀ .x) t cg
      ∧ ((half K t cg h).run σ).2 .codes = σ .codes
      ∧ ((half K t cg h).run σ).2 .scale
        = (rScales (t, cg, h)).overlay (σ .scale) (scaleW K (σ₀ .x) (σ₀ .ind) (σ₀ .gam) (σ₀ .bet) (t, cg, h)) := by
  have ht := run_tab (BlocksDone K σ₀ t cg h (σ .codes) (σ .scale)) 8 0 (block (F := F) cg h) _ (fun j σ' hσ => by
    rw [Nat.zero_add] at hσ ⊢; exact run_block K σ₀ σ' t cg h _ _ j hσ) σ
    ⟨hr, hx, rfl, rfl, filled_none _ _ _ (fun _ => Nat.not_lt_zero _)⟩
  obtain ⟨hu, hd⟩ := ht
  rw [Nat.zero_add] at hd
  have hred := hd.red.eq_glue cov_row fun i => i.2
  unfold half
  simp only [bind_def, run_bind, load, store, Cmd.run, pure_def, run_ret, hu]
  generalize ((tab 8 (block cg h)).run σ).2 = σ₁ at hd hred
  rw [hred]
  have hq := run_tab (fun _ σ' => σ' = (σ₁.upd .inv rRed (invV K (σ₀ .x) (σ₀ .ind) (σ₀ .gam) (σ₀ .bet) t cg h)).upd .scale (rScale t cg h)
      (scaleW K (σ₀ .x) (σ₀ .ind) (σ₀ .gam) (σ₀ .bet) (t, cg, h)))
    8 0 (fun j => (Cmd.bind (load .inv (rRow j) pos_S1x128) fun f => .ret (quant (uV K (σ₀ .x) (σ₀ .ind) (σ₀ .gam) (σ₀ .bet) t cg h j) f)))
    (fun j => quant (uV K (σ₀ .x) (σ₀ .ind) (σ₀ .gam) (σ₀ .bet) t cg h j) (pick (rRow j) (invV K (σ₀ .x) (σ₀ .ind) (σ₀ .gam) (σ₀ .bet) t cg h)))
    (fun j σ' hσ => by
      subst hσ
      simp only [run_bind, load, Cmd.run, and_true]
      rw [upd_ne _ (by decide), upd_self]
      rw [overlay_full]) _ rfl
  obtain ⟨hq1, hq2⟩ := hq
  refine ⟨?_, ?_⟩
  · erw [hq1]; rfl
  · erw [hq2]
    refine ⟨(hd.ready.upd K _ (by decide) _ _).upd K _ (by decide) _ _, ?_, ?_, ?_⟩
    · rw [upd_ne _ (by decide), upd_ne _ (by decide), hd.xt]
    · rw [upd_ne _ (by decide), upd_ne _ (by decide), hd.codes]
    · rw [upd_self, upd_ne _ (by decide), hd.scale]

/-- After the first `n` column groups, counted through the tiles. -/
structure ColumnsDone (σ₀ : St (Elt F)) (n : ℕ) (σ : St (Elt F)) : Prop where
  ready : Ready K σ₀ σ
  codes : Filled rTiles (codesW K (σ₀ .x) (σ₀ .ind) (σ₀ .gam) (σ₀ .bet)) (fun p => 5 * p.1.val + p.2.val < n) (σ .codes)
  scale : Filled rScales (scaleW K (σ₀ .x) (σ₀ .ind) (σ₀ .gam) (σ₀ .bet)) (fun p => 5 * p.1.val + p.2.1.val < n) (σ .scale)

/-- A column group after its rows have become lanes. -/
def columnRest (t : Fin 4) (cg : Fin 5) : Cmd (Elt F) PUnit := do
  let q0 ← half K t cg 0
  let q1 ← half K t cg 1
  let _ ← load .codes (rTile t cg) pos_S1x256x256
  store .codes (rTile t cg) pos_S1x256x256 (okPacked (tile_packed t cg)) (shapeCast S1x256x256 (flip8 q0 q1) (by decide))

/-- A column group is its rows made lanes, then the rest. -/
theorem column_run (t : Fin 4) (cg : Fin 5) (σ : St (Elt F)) : (column K t cg).run σ
    = (columnRest K t cg).run (σ.upd .xt rAll (xtV (σ .x) t cg)) := by
  unfold column columnRest
  simp only [bind_def, run_bind, run_load, run_store]
  rfl

/-- The rest of a column group adds its codes and scales to those done. -/
theorem run_rest (σ₀ σ : St (Elt F)) (t : Fin 4) (cg : Fin 5) (h : ColumnsDone K σ₀ (5 * t.val + cg.val) σ)
    (hx : σ .xt = xtV (σ₀ .x) t cg) : ColumnsDone K σ₀ (5 * t.val + cg.val + 1) ((columnRest K t cg).run σ).2 := by
  have h0 := run_half K σ₀ σ t cg 0 h.ready hx
  have h1 := run_half K σ₀ ((half K t cg 0).run σ).2 t cg 1 h0.2.1 h0.2.2.1
  unfold columnRest
  simp only [bind_def, run_bind, run_load, run_store, h0.1, h1.1]
  rw [show ∀ s : St (Elt F), (Cmd.run (load (Val := Elt F) .codes (rTile t cg) pos_S1x256x256) s).2 = s from fun _ => rfl]
  refine ⟨Ready.upd K h1.2.1 .codes (by decide) _ _, ?_, ?_⟩
  · rw [upd_self, h1.2.2.2.1, h0.2.2.2.1]
    refine h.codes.overlay apart_tiles (t, cg) fun j hj => ?_
    have := j.2.isLt; have := cg.isLt
    rcases Nat.lt_succ_iff_lt_or_eq.mp hj with h | h
    · exact .inl h
    · exact .inr (Prod.ext (Fin.ext (show j.1.val = t.val by omega)) (Fin.ext (show j.2.val = cg.val by omega)))
  · rw [upd_ne _ (by decide), h1.2.2.2.2, h0.2.2.2.2]
    have := h.scale.overlay apart_scales (D' := fun p => 5 * p.1.val + p.2.1.val < 5 * t.val + cg.val ∨ p = (t, cg, 0)) (t, cg, 0) fun j hj => hj
    refine this.overlay apart_scales (t, cg, 1) fun j hj => ?_
    have := j.2.1.isLt; have := cg.isLt
    rcases Nat.lt_succ_iff_lt_or_eq.mp hj with h | h
    · exact .inl (.inl h)
    · have e1 : j.1 = t := Fin.ext (by omega)
      have e2 : j.2.1 = cg := Fin.ext (by omega)
      rcases Fin.exists_fin_two.mp ⟨j.2.2, rfl⟩ with e3 | e3
      · exact .inl (.inr (Prod.ext e1 (Prod.ext e2 e3)))
      · exact .inr (Prod.ext e1 (Prod.ext e2 e3))

/-- A column group is added to those done. -/
theorem run_column (σ₀ σ : St (Elt F)) (t : Fin 4) (cg : Fin 5) (h : ColumnsDone K σ₀ (5 * t.val + cg.val) σ) :
    ColumnsDone K σ₀ (5 * t.val + cg.val + 1) ((column K t cg).run σ).2 := by
  rw [column_run]
  refine run_rest K σ₀ _ t cg ⟨h.ready.upd K .xt (by decide) _ _, ?_, ?_⟩ ?_
  · rw [upd_ne _ (by decide)]; exact h.codes
  · rw [upd_ne _ (by decide)]; exact h.scale
  · rw [upd_self, overlay_full, h.ready.same.x]

/-- The body ends with all 20 column groups done. -/
theorem run_body (σ : St (Elt F)) : ColumnsDone K σ 20 ((body K).run σ).2 := by
  unfold body
  simp only [bind_def, run_bind]
  have h := run_prelude K σ
  have hr : Ready K σ ((prelude K).run σ).2 := ⟨h.same, h.a.eq_glue cov_rows fun i => i.2, h.b.eq_glue cov_rows fun i => i.2⟩
  have := run_fold (fun n => ColumnsDone K σ (5 * n)) 4 0 (fun t (_ : PUnit) => tile K t) (fun t v σ' h => by
    rw [Nat.zero_add] at h ⊢
    exact run_fold (fun n => ColumnsDone K σ n) 5 (5 * t.val) (fun cg (_ : PUnit) => column K t cg) (fun cg v σ'' h => run_column K σ σ'' t cg h) ⟨⟩ σ' h)
    ⟨⟩ ((prelude K).run σ).2
    ⟨hr, filled_none _ _ _ (fun _ => Nat.not_lt_zero _), filled_none _ _ _ (fun _ => Nat.not_lt_zero _)⟩
  rwa [show 5 * (0 + 4) = 20 from rfl] at this

/-- The codes that the body leaves. -/
theorem run_body_codes (σ : St (Elt F)) : ((body K).run σ).2 .codes = codesV K (σ .x) (σ .ind) (σ .gam) (σ .bet) :=
  (run_body K σ).codes.eq_glue cov_tiles fun p => by have := p.1.2; have := p.2.2; omega
/-- The scales that the body leaves. -/
theorem run_body_scale (σ : St (Elt F)) : ((body K).run σ).2 .scale = scaleV K (σ .x) (σ .ind) (σ .gam) (σ .bet) :=
  (run_body K σ).scale.eq_glue cov_scales fun p => by have := p.1.2; have := p.2.1.2; omega

end Cert.Gn

end
-- ==== Proof.KernelBody.lean ====
/- The printed kernel body is the body written with loops. -/
module

public import proofs.«01_k».proof.Proof.Sound
public import proofs.«01_k».proof.Proof.Run
public import proofs.«01_k».proof.Proof.Gen.Kernel

@[expose] public section

noncomputable section

namespace Cert.Kernel.Gn

open Cert.Kernel Cert.Kernel.Facts₀ Cert.Gn Idealize.ShloMosaic Idealize.SL.Sem Idealize.ShloMosaic.Tactic

variable {F : FTy → Type} [FloatOps F]

/-- The kernel's constants as this program states them. -/
abbrev consts : Consts F where
  negLog2e := Scalar.ofBits .f32 0xBFB8AA3B#32
  ln2Over448 := Scalar.ofBits .f32 0x3ACACB89#32
  negLn2 := Scalar.ofBits .f32 0xBF317218#32
  invN := Scalar.ofBits .f32 0x37CCCCCD#32

section

variable (i : grid0.Coords) (arg1 : Memref sig .tc .vmem S1x1024x1280 .bf16) (harg1 : arg1.IsWhole) (arg2 : Memref sig .tc .vmem S32x1280 .f32) (harg2 : arg2.IsWhole) (arg3 : Memref sig .tc .vmem S1280x128 .f32) (harg3 : arg3.IsWhole) (arg4 : Memref sig .tc .vmem S1280x128 .f32) (harg4 : arg4.IsWhole) (arg5 : Memref sig .tc .vmem S1x1024x1280 .fp8e4m3) (harg5 : arg5.IsWhole) (arg6 : Memref sig .tc .vmem S1x40x1024 .i32) (harg6 : arg6.IsWhole) (arg7 : Memref sig .tc .vmem S256x256 .f32) (harg7 : arg7.IsWhole) (arg8 : Memref sig .tc .vmem S1280x128 .f32) (harg8 : arg8.IsWhole) (arg9 : Memref sig .tc .vmem S1280x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S2x32x128 .f32) (harg12 : arg12.IsWhole)

/-- The buffers' memrefs. -/
abbrev mems : Mems sig
  | .x => arg1 | .ind => arg2 | .gam => arg3 | .bet => arg4 | .codes => arg5 | .scale => arg6
  | .xt => arg7 | .a => arg8 | .b => arg9 | .red => arg10 | .inv => arg11 | .stat => arg12

omit [FloatOps F] in
include harg1 harg2 harg3 harg4 harg5 harg6 harg7 harg8 harg9 harg10 harg11 harg12 in
/-- Each memref is the whole of its buffer. -/
theorem mems_whole : ∀ b, (mems arg1 arg2 arg3 arg4 arg5 arg6 arg7 arg8 arg9 arg10 arg11 arg12 b).IsWhole
  | .x => harg1 | .ind => harg2 | .gam => harg3 | .bet => harg4 | .codes => harg5 | .scale => harg6
  | .xt => harg7 | .a => harg8 | .b => harg9 | .red => harg10 | .inv => harg11 | .stat => harg12

/-- The printed body, its loop over the tiles kept. -/
theorem printed_eq :
    cc0_gn_silu_mxfp8 (F := F) i arg1 harg1 arg2 harg2 arg3 harg3 arg4 harg4 arg5 harg5 arg6 harg6 arg7 harg7 arg8 harg8 arg9 harg9 arg10 harg10 arg11 harg11 arg12 harg12
      = (prelude (consts (F := F))).toProg (mems arg1 arg2 arg3 arg4 arg5 arg6 arg7 arg8 arg9 arg10 arg11 arg12)
          (mems_whole arg1 harg1 arg2 harg2 arg3 harg3 arg4 harg4 arg5 harg5 arg6 harg6 arg7 harg7 arg8 harg8 arg9 harg9 arg10 harg10 arg11 harg11 arg12 harg12) >>= fun _ =>
        Scf.Loop.for k0_t1_loop k0_t1_ok PUnit.unit (fun t _ =>
          (tile (consts (F := F)) ⟨t.val, Nat.lt_of_lt_of_eq t.isLt (by decide)⟩).toProg (mems arg1 arg2 arg3 arg4 arg5 arg6 arg7 arg8 arg9 arg10 arg11 arg12)
            (mems_whole arg1 harg1 arg2 harg2 arg3 harg3 arg4 harg4 arg5 harg5 arg6 harg6 arg7 harg7 arg8 harg8 arg9 harg9 arg10 harg10 arg11 harg11 arg12 harg12)) >>= fun _ => pure ⟨⟩ := by
  sl_kernel_rfl

/-- The printed body is the command body's program. -/
theorem body_eq :
    cc0_gn_silu_mxfp8 (F := F) i arg1 harg1 arg2 harg2 arg3 harg3 arg4 harg4 arg5 harg5 arg6 harg6 arg7 harg7 arg8 harg8 arg9 harg9 arg10 harg10 arg11 harg11 arg12 harg12
      = (body (consts (F := F))).toProg (mems arg1 arg2 arg3 arg4 arg5 arg6 arg7 arg8 arg9 arg10 arg11 arg12)
          (mems_whole arg1 harg1 arg2 harg2 arg3 harg3 arg4 harg4 arg5 harg5 arg6 harg6 arg7 harg7 arg8 harg8 arg9 harg9 arg10 harg10 arg11 harg11 arg12 harg12) := by
  rw [printed_eq, toProg_for _ _ k0_t1_loop k0_t1_ok (by decide) (fun t (_ : PUnit) => tile (consts (F := F)) t)]
  unfold body
  rw [bind_def, toProg_bind]
  exact congrArg _ (funext fun _ => Prog.bind_pure _)

end

end Cert.Kernel.Gn

end
-- ==== Proof.Triple.lean ====
/- The kernel body on owned buffers: the inputs stay, the results hold what `Proof.Run` says. -/
module

public import proofs.«01_k».proof.Proof.Sound
public import proofs.«01_k».proof.Proof.Run
public import Idealize.ShloMosaic.Lib.Pipeline.BigSepL

@[expose] public section

noncomputable section

namespace Cert.Gn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] (K : Consts F)
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

/-- The contents of the buffers, one by one. -/
def mk (x : Vec F S1x1024x1280 .bf16) (ind : Vec F S32x1280 .f32) (gam bet : Vec F S1280x128 .f32) (codes : Vec F S1x1024x1280 .fp8e4m3)
    (scale : Vec F S1x40x1024 .i32) (xt : Vec F S256x256 .f32) (a b : Vec F S1280x128 .f32) (red inv : Vec F S8x128 .f32)
    (stat : Vec F S2x32x128 .f32) : St (Elt F)
  | .x => x | .ind => ind | .gam => gam | .bet => bet | .codes => codes | .scale => scale
  | .xt => xt | .a => a | .b => b | .red => red | .inv => inv | .stat => stat

omit [FloatOps F] [Preorder Lvl] in
/-- The buffers one by one. -/
theorem own_eq (c : Dev nD) (M : Mems sig) (σ : St (Elt F)) : (own c M σ : sProp 𝕄)
    = iprop(owns (c : Thread nD τ) (M .x) fullShare (σ .x) ∗ owns (c : Thread nD τ) (M .ind) fullShare (σ .ind)
      ∗ owns (c : Thread nD τ) (M .gam) fullShare (σ .gam) ∗ owns (c : Thread nD τ) (M .bet) fullShare (σ .bet)
      ∗ owns (c : Thread nD τ) (M .codes) fullShare (σ .codes) ∗ owns (c : Thread nD τ) (M .scale) fullShare (σ .scale)
      ∗ owns (c : Thread nD τ) (M .xt) fullShare (σ .xt) ∗ owns (c : Thread nD τ) (M .a) fullShare (σ .a)
      ∗ owns (c : Thread nD τ) (M .b) fullShare (σ .b) ∗ owns (c : Thread nD τ) (M .red) fullShare (σ .red)
      ∗ owns (c : Thread nD τ) (M .inv) fullShare (σ .inv) ∗ owns (c : Thread nD τ) (M .stat) fullShare (σ .stat)) :=
  bigSep_univ_eq_bigSepL [B.x, .ind, .gam, .bet, .codes, .scale, .xt, .a, .b, .red, .inv, .stat] (by decide) (by decide) _

/-- The body's triple. -/
theorem body_triple (defs : Defs nD τ sig (Elt F) Λ) (𝒱 : Variants) (c : Dev nD) (bd : Option 𝒱.V) (E : Set Name)
    (M : Mems sig) (hM : ∀ b, (M b).IsWhole) (x : Vec F S1x1024x1280 .bf16) (ind : Vec F S32x1280 .f32) (gam bet : Vec F S1280x128 .f32)
    (Q : PUnit → sProp 𝕄) :
    iprop((owns (c : Thread nD τ) (M .x) fullShare x ∗ owns (c : Thread nD τ) (M .ind) fullShare ind
        ∗ owns (c : Thread nD τ) (M .gam) fullShare gam ∗ owns (c : Thread nD τ) (M .bet) fullShare bet
        ∗ (∃ d, owns (c : Thread nD τ) (M .codes) fullShare d) ∗ (∃ d, owns (c : Thread nD τ) (M .scale) fullShare d)
        ∗ (∃ d, owns (c : Thread nD τ) (M .xt) fullShare d) ∗ (∃ d, owns (c : Thread nD τ) (M .a) fullShare d)
        ∗ (∃ d, owns (c : Thread nD τ) (M .b) fullShare d) ∗ (∃ d, owns (c : Thread nD τ) (M .red) fullShare d)
        ∗ (∃ d, owns (c : Thread nD τ) (M .inv) fullShare d) ∗ (∃ d, owns (c : Thread nD τ) (M .stat) fullShare d))
      ∗ ((owns (c : Thread nD τ) (M .x) fullShare x ∗ owns (c : Thread nD τ) (M .ind) fullShare ind
        ∗ owns (c : Thread nD τ) (M .gam) fullShare gam ∗ owns (c : Thread nD τ) (M .bet) fullShare bet
        ∗ owns (c : Thread nD τ) (M .codes) fullShare (codesV K x ind gam bet)
        ∗ owns (c : Thread nD τ) (M .scale) fullShare (scaleV K x ind gam bet)
        ∗ (∃ d, owns (c : Thread nD τ) (M .xt) fullShare d) ∗ (∃ d, owns (c : Thread nD τ) (M .a) fullShare d)
        ∗ (∃ d, owns (c : Thread nD τ) (M .b) fullShare d) ∗ (∃ d, owns (c : Thread nD τ) (M .red) fullShare d)
        ∗ (∃ d, owns (c : Thread nD τ) (M .inv) fullShare d) ∗ (∃ d, owns (c : Thread nD τ) (M .stat) fullShare d)) -∗ Q ⟨⟩))
      ⊢ wp frame (wpE defs 𝒱 (c : Thread nD τ) bd) E ((body K).toProg M hM) Q := by
  iintro ⟨⟨Hx, Hi, Hg, Hb, ⟨%d5, H5⟩, ⟨%d6, H6⟩, ⟨%d7, H7⟩, ⟨%d8, H8⟩, ⟨%d9, H9⟩, ⟨%d10, H10⟩, ⟨%d11, H11⟩, ⟨%d12, H12⟩⟩, Hk⟩
  iapply (Cmd.sound defs 𝒱 c bd E M hM (body K) (mk x ind gam bet d5 d6 d7 d8 d9 d10 d11 d12) Q)
  rw [own_eq, own_eq]
  have hd := (run_body K (mk x ind gam bet d5 d6 d7 d8 d9 d10 d11 d12)).ready.same
  rw [run_body_codes, run_body_scale, hd.x, hd.ind, hd.gam, hd.bet]
  isplitr [Hk]
  · isplitl [Hx]; · iexact Hx
    isplitl [Hi]; · iexact Hi
    isplitl [Hg]; · iexact Hg
    isplitl [Hb]; · iexact Hb
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro ⟨Hx, Hi, Hg, Hb, H5, H6, H7, H8, H9, H10, H11, H12⟩
  iapply Hk
  isplitl [Hx]; · iexact Hx
  isplitl [Hi]; · iexact Hi
  isplitl [Hg]; · iexact Hg
  isplitl [Hb]; · iexact Hb
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.Gn

end
-- ==== Proof.KernelFrame.lean ====
/- The proof data of the pipeline's run, its body obligation, and the frame. -/
module

public import proofs.«01_k».proof.Proof.KernelBody
public import proofs.«01_k».proof.Proof.Triple
public import proofs.«01_k».proof.Proof.Gen.Kernel.Frame
public import Idealize.ShloMosaic.Lib.Claim

@[expose] public section

noncomputable section

namespace Cert.Kernel.Gn

open Cert.Kernel Cert.Kernel.Gen Cert.Gn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes and the scales the body leaves at a point. -/
def codesAt (c : Dev nD) (t : Fin cfg0.N) : Vec F S1x1024x1280 .fp8e4m3 :=
  codesV consts (iblk m c 0 t) (iblk m c 1 t) (iblk m c 2 t) (iblk m c 3 t)
def scaleAt (c : Dev nD) (t : Fin cfg0.N) : Vec F S1x40x1024 .i32 :=
  scaleV consts (iblk m c 0 t) (iblk m c 1 t) (iblk m c 2 t) (iblk m c 3 t)

/-- The proof data: the inputs' blocks stay, the results' blocks hold the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c t
  Φ _ := Pipeline.ΦA spec0 c
  q _ := fullShare
  owed _ := 0

/-- An array is as the region finds it. -/
theorem A_eq (c : Dev nD) (w : Fin cfg0.W) : (dats m 0 c).A w = V m c (Pipeline.arrRef spec0 w) := by
  dsimp only [dats]

/-- The samples' buffer keeps its block. -/
theorem after0_0 (c : Dev nD) (t : Fin cfg0.N) : (dats m 0 c).after 0 t = iblk m c 0 t := by dsimp only [dats]
/-- The indicator's buffer keeps its block. -/
theorem after0_1 (c : Dev nD) (t : Fin cfg0.N) : (dats m 0 c).after 1 t = iblk m c 1 t := by dsimp only [dats]
/-- Gamma's buffer keeps its block. -/
theorem after0_2 (c : Dev nD) (t : Fin cfg0.N) : (dats m 0 c).after 2 t = iblk m c 2 t := by dsimp only [dats]
/-- Beta's buffer keeps its block. -/
theorem after0_3 (c : Dev nD) (t : Fin cfg0.N) : (dats m 0 c).after 3 t = iblk m c 3 t := by dsimp only [dats]
/-- The codes' buffer ends with the point's codes. -/
theorem after0_4 (c : Dev nD) (t : Fin cfg0.N) : (dats m 0 c).after 4 t = codesAt m c t := by dsimp only [dats]
/-- The scales' buffer ends with the point's scales. -/
theorem after0_5 (c : Dev nD) (t : Fin cfg0.N) : (dats m 0 c).after 5 t = scaleAt m c t := by dsimp only [dats]

/-- The body finds the samples' block. -/
theorem before0_0 (c : Dev nD) (t : Fin cfg0.N) (d) : (dats m 0 c).before 0 t d = iblk m c 0 t :=
  before0_0_of m (dats m 0 c) (A_eq m c 0) (after0_0 m c) t d
/-- The body finds the indicator's block. -/
theorem before0_1 (c : Dev nD) (t : Fin cfg0.N) (d) : (dats m 0 c).before 1 t d = iblk m c 1 t :=
  before0_1_of m (dats m 0 c) (A_eq m c 1) (after0_1 m c) t d
/-- The body finds gamma's block. -/
theorem before0_2 (c : Dev nD) (t : Fin cfg0.N) (d) : (dats m 0 c).before 2 t d = iblk m c 2 t :=
  before0_2_of m (dats m 0 c) (A_eq m c 2) (after0_2 m c) t d
/-- The body finds beta's block. -/
theorem before0_3 (c : Dev nD) (t : Fin cfg0.N) (d) : (dats m 0 c).before 3 t d = iblk m c 3 t :=
  before0_3_of m (dats m 0 c) (A_eq m c 3) (after0_3 m c) t d

/-! ## The body obligation -/

/-- What the body takes at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, body_eq]
  unfold Pipeline.ΦA
  rw [scopedRest0_eq]
  simp only [← owns_whole]
  iintro ⟨⟨⟨S0, S1, S2, S3, S4, S5⟩, Hr⟩, Ho, ⟨%d0, H0⟩, ⟨%d1, H1⟩, ⟨%d2, H2⟩, ⟨%d3, H3⟩, ⟨%d4, H4⟩, ⟨%d5, H5⟩⟩
  iapply (body_triple consts (defs₀ (F := F)) Variants.none c none Set.univ _ _ (iblk m c 0 t) (iblk m c 1 t) (iblk m c 2 t) (iblk m c 3 t) _)
  isplitr [Hr Ho]
  · isplitl [H0]; · iexact H0
    isplitl [H1]; · iexact H1
    isplitl [H2]; · iexact H2
    isplitl [H3]; · iexact H3
    isplitl [H4]; · iexists _; iexact H4
    isplitl [H5]; · iexists _; iexact H5
    isplitl [S0]; · iexact S0
    isplitl [S1]; · iexact S1
    isplitl [S2]; · iexact S2
    isplitl [S3]; · iexact S3
    isplitl [S4]; · iexact S4
    iexact S5
  iintro ⟨H0, H1, H2, H3, H4, H5, S0, S1, S2, S3, S4, S5⟩
  isplitr [Ho H0 H1 H2 H3 H4 H5]
  · isplitr [Hr]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iexact H0
  isplitl [H1]; · iexact H1
  isplitl [H2]; · iexact H2
  isplitl [H3]; · iexact H3
  isplitl [H4]; · iexact H4
  iexact H5

/-- The label table's row is the body at the point. -/
theorem defs₀_row (t : Fin cfg0.N) : defs₀ (F := F) .tc cfg0.body (cfg0.bodyArgs t (cfg0.slots t)) = bodyAt0 t := by
  unfold defs₀
  rw [Defs.onTc_tc]

/-- The body, at every point, leaves what is said of its buffers. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arrays end at what the proof data says, the other buffers at what the later lines leave, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run ends with the arrays and the other buffers as computed from the points. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as launched, and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_main_quiescent m ρ))

end Cert.Kernel.Gn

end
-- ==== Proof.KernelIdealBody.lean ====
/- The printed kernel body is the body written with loops. -/
module

public import proofs.«01_k».proof.Proof.Sound
public import proofs.«01_k».proof.Proof.Run
public import proofs.«01_k».proof.Proof.Gen.KernelIdeal

@[expose] public section

noncomputable section

namespace Cert.KernelIdeal.Gn

open Cert.KernelIdeal Cert.KernelIdeal.Facts₀ Cert.Gn Idealize.ShloMosaic Idealize.SL.Sem Idealize.ShloMosaic.Tactic

variable {F : FTy → Type} [FloatOps F] [Named F]

/-- The kernel's constants as this program states them. -/
abbrev consts : Consts F where
  negLog2e := Named.named κ "neg_log2e" 0xBFB8AA3B#32
  ln2Over448 := Named.named κ "ln2_over_448" 0x3ACACB89#32
  negLn2 := Named.named κ "neg_ln2" 0xBF317218#32
  invN := Named.named κ "inv_n" 0x37CCCCCD#32

section

variable (i : grid0.Coords) (arg1 : Memref sig .tc .vmem S1x1024x1280 .bf16) (harg1 : arg1.IsWhole) (arg2 : Memref sig .tc .vmem S32x1280 .f32) (harg2 : arg2.IsWhole) (arg3 : Memref sig .tc .vmem S1280x128 .f32) (harg3 : arg3.IsWhole) (arg4 : Memref sig .tc .vmem S1280x128 .f32) (harg4 : arg4.IsWhole) (arg5 : Memref sig .tc .vmem S1x1024x1280 .fp8e4m3) (harg5 : arg5.IsWhole) (arg6 : Memref sig .tc .vmem S1x40x1024 .i32) (harg6 : arg6.IsWhole) (arg7 : Memref sig .tc .vmem S256x256 .f32) (harg7 : arg7.IsWhole) (arg8 : Memref sig .tc .vmem S1280x128 .f32) (harg8 : arg8.IsWhole) (arg9 : Memref sig .tc .vmem S1280x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S2x32x128 .f32) (harg12 : arg12.IsWhole)

/-- The buffers' memrefs. -/
abbrev mems : Mems sig
  | .x => arg1 | .ind => arg2 | .gam => arg3 | .bet => arg4 | .codes => arg5 | .scale => arg6
  | .xt => arg7 | .a => arg8 | .b => arg9 | .red => arg10 | .inv => arg11 | .stat => arg12

omit [FloatOps F] [Named F] in
include harg1 harg2 harg3 harg4 harg5 harg6 harg7 harg8 harg9 harg10 harg11 harg12 in
/-- Each memref is the whole of its buffer. -/
theorem mems_whole : ∀ b, (mems arg1 arg2 arg3 arg4 arg5 arg6 arg7 arg8 arg9 arg10 arg11 arg12 b).IsWhole
  | .x => harg1 | .ind => harg2 | .gam => harg3 | .bet => harg4 | .codes => harg5 | .scale => harg6
  | .xt => harg7 | .a => harg8 | .b => harg9 | .red => harg10 | .inv => harg11 | .stat => harg12

/-- The printed body, its loop over the tiles kept. -/
theorem printed_eq :
    cc0_gn_silu_mxfp8 (F := F) i arg1 harg1 arg2 harg2 arg3 harg3 arg4 harg4 arg5 harg5 arg6 harg6 arg7 harg7 arg8 harg8 arg9 harg9 arg10 harg10 arg11 harg11 arg12 harg12
      = (prelude (consts (F := F))).toProg (mems arg1 arg2 arg3 arg4 arg5 arg6 arg7 arg8 arg9 arg10 arg11 arg12)
          (mems_whole arg1 harg1 arg2 harg2 arg3 harg3 arg4 harg4 arg5 harg5 arg6 harg6 arg7 harg7 arg8 harg8 arg9 harg9 arg10 harg10 arg11 harg11 arg12 harg12) >>= fun _ =>
        Scf.Loop.for k0_t1_loop k0_t1_ok PUnit.unit (fun t _ =>
          (tile (consts (F := F)) ⟨t.val, Nat.lt_of_lt_of_eq t.isLt (by decide)⟩).toProg (mems arg1 arg2 arg3 arg4 arg5 arg6 arg7 arg8 arg9 arg10 arg11 arg12)
            (mems_whole arg1 harg1 arg2 harg2 arg3 harg3 arg4 harg4 arg5 harg5 arg6 harg6 arg7 harg7 arg8 harg8 arg9 harg9 arg10 harg10 arg11 harg11 arg12 harg12)) >>= fun _ => pure ⟨⟩ := by
  sl_kernel_rfl

/-- The printed body is the command body's program. -/
theorem body_eq :
    cc0_gn_silu_mxfp8 (F := F) i arg1 harg1 arg2 harg2 arg3 harg3 arg4 harg4 arg5 harg5 arg6 harg6 arg7 harg7 arg8 harg8 arg9 harg9 arg10 harg10 arg11 harg11 arg12 harg12
      = (body (consts (F := F))).toProg (mems arg1 arg2 arg3 arg4 arg5 arg6 arg7 arg8 arg9 arg10 arg11 arg12)
          (mems_whole arg1 harg1 arg2 harg2 arg3 harg3 arg4 harg4 arg5 harg5 arg6 harg6 arg7 harg7 arg8 harg8 arg9 harg9 arg10 harg10 arg11 harg11 arg12 harg12) := by
  rw [printed_eq, toProg_for _ _ k0_t1_loop k0_t1_ok (by decide) (fun t (_ : PUnit) => tile (consts (F := F)) t)]
  unfold body
  rw [bind_def, toProg_bind]
  exact congrArg _ (funext fun _ => Prog.bind_pure _)

end

end Cert.KernelIdeal.Gn

end
-- ==== Proof.KernelIdealFrame.lean ====
/- The proof data of the pipeline's run, its body obligation, and the frame. -/
module

public import proofs.«01_k».proof.Proof.KernelIdealBody
public import proofs.«01_k».proof.Proof.Triple
public import proofs.«01_k».proof.Proof.Gen.KernelIdeal.Frame
public import Idealize.ShloMosaic.Lib.Claim

@[expose] public section

noncomputable section

namespace Cert.KernelIdeal.Gn

open Cert.KernelIdeal Cert.KernelIdeal.Gen Cert.Gn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The codes and the scales the body leaves at a point. -/
def codesAt (c : Dev nD) (t : Fin cfg0.N) : Vec F S1x1024x1280 .fp8e4m3 :=
  codesV consts (iblk m c 0 t) (iblk m c 1 t) (iblk m c 2 t) (iblk m c 3 t)
def scaleAt (c : Dev nD) (t : Fin cfg0.N) : Vec F S1x40x1024 .i32 :=
  scaleV consts (iblk m c 0 t) (iblk m c 1 t) (iblk m c 2 t) (iblk m c 3 t)

/-- The proof data: the inputs' blocks stay, the results' blocks hold the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c t
  Φ _ := Pipeline.ΦA spec0 c
  q _ := fullShare
  owed _ := 0

/-- An array is as the region finds it. -/
theorem A_eq (c : Dev nD) (w : Fin cfg0.W) : (dats m 0 c).A w = V m c (Pipeline.arrRef spec0 w) := by
  dsimp only [dats]

/-- The samples' buffer keeps its block. -/
theorem after0_0 (c : Dev nD) (t : Fin cfg0.N) : (dats m 0 c).after 0 t = iblk m c 0 t := by dsimp only [dats]
/-- The indicator's buffer keeps its block. -/
theorem after0_1 (c : Dev nD) (t : Fin cfg0.N) : (dats m 0 c).after 1 t = iblk m c 1 t := by dsimp only [dats]
/-- Gamma's buffer keeps its block. -/
theorem after0_2 (c : Dev nD) (t : Fin cfg0.N) : (dats m 0 c).after 2 t = iblk m c 2 t := by dsimp only [dats]
/-- Beta's buffer keeps its block. -/
theorem after0_3 (c : Dev nD) (t : Fin cfg0.N) : (dats m 0 c).after 3 t = iblk m c 3 t := by dsimp only [dats]
/-- The codes' buffer ends with the point's codes. -/
theorem after0_4 (c : Dev nD) (t : Fin cfg0.N) : (dats m 0 c).after 4 t = codesAt m c t := by dsimp only [dats]
/-- The scales' buffer ends with the point's scales. -/
theorem after0_5 (c : Dev nD) (t : Fin cfg0.N) : (dats m 0 c).after 5 t = scaleAt m c t := by dsimp only [dats]

/-- The body finds the samples' block. -/
theorem before0_0 (c : Dev nD) (t : Fin cfg0.N) (d) : (dats m 0 c).before 0 t d = iblk m c 0 t :=
  before0_0_of m (dats m 0 c) (A_eq m c 0) (after0_0 m c) t d
/-- The body finds the indicator's block. -/
theorem before0_1 (c : Dev nD) (t : Fin cfg0.N) (d) : (dats m 0 c).before 1 t d = iblk m c 1 t :=
  before0_1_of m (dats m 0 c) (A_eq m c 1) (after0_1 m c) t d
/-- The body finds gamma's block. -/
theorem before0_2 (c : Dev nD) (t : Fin cfg0.N) (d) : (dats m 0 c).before 2 t d = iblk m c 2 t :=
  before0_2_of m (dats m 0 c) (A_eq m c 2) (after0_2 m c) t d
/-- The body finds beta's block. -/
theorem before0_3 (c : Dev nD) (t : Fin cfg0.N) (d) : (dats m 0 c).before 3 t d = iblk m c 3 t :=
  before0_3_of m (dats m 0 c) (A_eq m c 3) (after0_3 m c) t d

/-! ## The body obligation -/

/-- What the body takes at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, body_eq]
  unfold Pipeline.ΦA
  rw [scopedRest0_eq]
  simp only [← owns_whole]
  iintro ⟨⟨⟨S0, S1, S2, S3, S4, S5⟩, Hr⟩, Ho, ⟨%d0, H0⟩, ⟨%d1, H1⟩, ⟨%d2, H2⟩, ⟨%d3, H3⟩, ⟨%d4, H4⟩, ⟨%d5, H5⟩⟩
  iapply (body_triple consts (defs₀ (F := F)) Variants.none c none Set.univ _ _ (iblk m c 0 t) (iblk m c 1 t) (iblk m c 2 t) (iblk m c 3 t) _)
  isplitr [Hr Ho]
  · isplitl [H0]; · iexact H0
    isplitl [H1]; · iexact H1
    isplitl [H2]; · iexact H2
    isplitl [H3]; · iexact H3
    isplitl [H4]; · iexists _; iexact H4
    isplitl [H5]; · iexists _; iexact H5
    isplitl [S0]; · iexact S0
    isplitl [S1]; · iexact S1
    isplitl [S2]; · iexact S2
    isplitl [S3]; · iexact S3
    isplitl [S4]; · iexact S4
    iexact S5
  iintro ⟨H0, H1, H2, H3, H4, H5, S0, S1, S2, S3, S4, S5⟩
  isplitr [Ho H0 H1 H2 H3 H4 H5]
  · isplitr [Hr]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iexact H0
  isplitl [H1]; · iexact H1
  isplitl [H2]; · iexact H2
  isplitl [H3]; · iexact H3
  isplitl [H4]; · iexact H4
  iexact H5

/-- The label table's row is the body at the point. -/
theorem defs₀_row (t : Fin cfg0.N) : defs₀ (F := F) .tc cfg0.body (cfg0.bodyArgs t (cfg0.slots t)) = bodyAt0 t := by
  unfold defs₀
  rw [Defs.onTc_tc]

/-- The body, at every point, leaves what is said of its buffers. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arrays end at what the proof data says, the other buffers at what the later lines leave, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run ends with the arrays and the other buffers as computed from the points. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as launched, and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_main_quiescent m ρ))

end Cert.KernelIdeal.Gn

end
-- ==== Proof.Parts.lean ====
/- The frames and the named constants: the certificate's claims that say nothing of values. -/
module

public import proofs.«01_k».proof.Defs
public import proofs.«01_k».proof.Proof.KernelFrame
public import proofs.«01_k».proof.Proof.KernelIdealFrame
public import proofs.«01_k».proof.Proof.Gen.ReferenceIdeal.Frame

@[expose] public section

noncomputable section

namespace Cert.Parts

open Idealize.ShloMosaic Idealize.SL.Sem

/-- The kernel runs, leaves its arguments and ends with every semaphore at zero. -/
theorem frame_p : Cert.quiescent_Kernel := fun m ρ _ => Cert.Kernel.Gn.quiescent m ρ

/-- So does its idealization. -/
theorem frame_pi : Cert.quiescent_KernelIdeal := fun m ρ _ => Cert.KernelIdeal.Gn.quiescent m ρ

/-- So does the reference's. -/
theorem frame_ri : Cert.quiescent_ReferenceIdeal := fun m ρ _ => Cert.ReferenceIdeal.Gen.frame m ρ

/-- Each named constant is what its bits round. -/
theorem preserves : Cert.preserves_Kernel_KernelIdeal :=
  ⟨IdealRules.named_const.statement Cert.KernelIdeal.κ "inv_n" .f32 0x37CCCCCD#32 ((1 / 40960 : ℝ) : EReal) rfl,
    IdealRules.named_const.statement Cert.KernelIdeal.κ "neg_log2e" .f32 0xBFB8AA3B#32 ((-((Real.log 2)⁻¹) : ℝ) : EReal) rfl,
    IdealRules.named_const.statement Cert.KernelIdeal.κ "ln2_over_448" .f32 0x3ACACB89#32 (((Real.log 2) * (1 / 448) : ℝ) : EReal) rfl,
    IdealRules.named_const.statement Cert.KernelIdeal.κ "neg_ln2" .f32 0xBF317218#32 ((-(Real.log 2) : ℝ) : EReal) rfl⟩

end Cert.Parts

end
-- ==== Proof.Scalar.lean ====
/- Scalar facts over the extended reals: the floats of the words `e << 23`, the search for an exponent field,
   and the constants' values. -/
module

public import Idealize.ShloMosaic.PureOps
public import Idealize.ShloMosaic.PureOps.Ideal
public import Idealize.ShloMosaic.Lib.Pointwise

@[expose] public section

noncomputable section

namespace Cert.Gn

open Idealize.ShloMosaic

/-! ## The floats of the words `e << 23` -/

/-- The float of the word `e << 23`. -/
def pow2f (e : BitVec 32) : EReal := Ideal.ofBits .f32 (e <<< 23)

/-- The sign, exponent and fraction fields of the word e << 23. -/
theorem shift_fields : ∀ e : Fin 256, (((BitVec.ofNat 32 e.val) <<< 23).extractLsb' 31 1 == 1#1) = false
    ∧ (((BitVec.ofNat 32 e.val) <<< 23).extractLsb' 23 8).toNat = e.val
    ∧ (((BitVec.ofNat 32 e.val) <<< 23).extractLsb' 0 23).toNat = 0 := by decide +kernel

/-- The word's float is `2 ^ (e - 127)` at a normal exponent. -/
theorem pow2f_normal (e : ℕ) (h0 : 1 ≤ e) (h1 : e ≤ 254) : pow2f (BitVec.ofNat 32 e) = (((2 : ℝ) ^ ((e : ℤ) - 127) : ℝ) : EReal) := by
  obtain ⟨a, b, c⟩ := shift_fields ⟨e, by omega⟩
  unfold pow2f Ideal.ofBits Ideal.ieee
  simp only at a b c ⊢
  simp only [a, b, c]
  rw [if_neg (by norm_num; omega), if_neg (by omega), EReal.coe_eq_coe_iff]
  rw [show (e : ℤ) - (2 ^ (8 - 1) - 1) - ((23 : ℕ) : ℤ) = ((e : ℤ) - 127) - 23 by norm_num, if_neg (by decide), one_mul, Nat.add_zero,
    zpow_sub₀ (by norm_num : (2 : ℝ) ≠ 0)]
  generalize (2 : ℝ) ^ ((e : ℤ) - 127) = y
  norm_num
  ring

/-- The word of exponent field 0 is the float 0. -/
theorem pow2f_zero : pow2f (BitVec.ofNat 32 0) = 0 := by
  obtain ⟨a, b, c⟩ := shift_fields 0
  unfold pow2f Ideal.ofBits Ideal.ieee
  simp only [Fin.val_zero] at a b c ⊢
  simp only [a, b, c]
  norm_num

/-- The word of exponent field 255 is infinity. -/
theorem pow2f_top : pow2f (BitVec.ofNat 32 255) = ⊤ := by
  obtain ⟨a, b, c⟩ := shift_fields 255
  unfold pow2f Ideal.ofBits Ideal.ieee
  simp only [show (255 : Fin 256).val = 255 from rfl] at a b c ⊢
  simp only [a, b, c]
  norm_num

/-! ## The search -/

/-- One step of the search for the exponent field. -/
def raise1 (t : EReal) (p e : BitVec 32) : BitVec 32 :=
  Scalar.select (Ideal.cmp .ole (pow2f (e + p)) t) (e + p) e

/-- The search. -/
def search (t : EReal) : BitVec 32 :=
  raise1 t 1#32 (raise1 t 2#32 (raise1 t 4#32 (raise1 t 8#32 (raise1 t 16#32 (raise1 t 32#32 (raise1 t 64#32 (raise1 t 128#32 0#32)))))))

/-- A step of the search adds its power where the field is at least the sum. -/
theorem raise1_step {t : EReal} {N : ℕ} (hp : ∀ k, k < 256 → (pow2f (BitVec.ofNat 32 k) ≤ t ↔ k ≤ N)) (q a : ℕ) (ha : a + q < 256) :
    raise1 t (BitVec.ofNat 32 q) (BitVec.ofNat 32 a) = BitVec.ofNat 32 (if a + q ≤ N then a + q else a) := by
  unfold raise1
  rw [← BitVec.ofNat_add]
  have := hp (a + q) ha
  by_cases h : a + q ≤ N
  · rw [if_pos h]
    simp [Ideal.cmp, this.2 h, Scalar.select]
  · rw [if_neg h]
    simp [Ideal.cmp, mt this.1 h, Scalar.select]

/-- The search finds the greatest field whose float is at most `t`. -/
theorem search_eq {t : EReal} {N : ℕ} (hN : N < 256) (hp : ∀ k, k < 256 → (pow2f (BitVec.ofNat 32 k) ≤ t ↔ k ≤ N)) :
    search t = BitVec.ofNat 32 N := by
  have s := fun q a ha => raise1_step (t := t) hp q a ha
  unfold search
  obtain ⟨a1, e1⟩ : ∃ a, a = if 0 + 128 ≤ N then 0 + 128 else 0 := ⟨_, rfl⟩
  obtain ⟨a2, e2⟩ : ∃ a, a = if a1 + 64 ≤ N then a1 + 64 else a1 := ⟨_, rfl⟩
  obtain ⟨a3, e3⟩ : ∃ a, a = if a2 + 32 ≤ N then a2 + 32 else a2 := ⟨_, rfl⟩
  obtain ⟨a4, e4⟩ : ∃ a, a = if a3 + 16 ≤ N then a3 + 16 else a3 := ⟨_, rfl⟩
  obtain ⟨a5, e5⟩ : ∃ a, a = if a4 + 8 ≤ N then a4 + 8 else a4 := ⟨_, rfl⟩
  obtain ⟨a6, e6⟩ : ∃ a, a = if a5 + 4 ≤ N then a5 + 4 else a5 := ⟨_, rfl⟩
  obtain ⟨a7, e7⟩ : ∃ a, a = if a6 + 2 ≤ N then a6 + 2 else a6 := ⟨_, rfl⟩
  obtain ⟨a8, e8⟩ : ∃ a, a = if a7 + 1 ≤ N then a7 + 1 else a7 := ⟨_, rfl⟩
  have b1 : a1 ≤ 128 ∧ a1 ≤ N ∧ N < a1 + 128 := by split_ifs at e1 <;> omega
  have b2 : a2 ≤ 192 ∧ a2 ≤ N ∧ N < a2 + 64 := by split_ifs at e2 <;> omega
  have b3 : a3 ≤ 224 ∧ a3 ≤ N ∧ N < a3 + 32 := by split_ifs at e3 <;> omega
  have b4 : a4 ≤ 240 ∧ a4 ≤ N ∧ N < a4 + 16 := by split_ifs at e4 <;> omega
  have b5 : a5 ≤ 248 ∧ a5 ≤ N ∧ N < a5 + 8 := by split_ifs at e5 <;> omega
  have b6 : a6 ≤ 252 ∧ a6 ≤ N ∧ N < a6 + 4 := by split_ifs at e6 <;> omega
  have b7 : a7 ≤ 254 ∧ a7 ≤ N ∧ N < a7 + 2 := by split_ifs at e7 <;> omega
  have b8 : a8 = N := by split_ifs at e8 <;> omega
  rw [show raise1 t 128#32 0#32 = BitVec.ofNat 32 a1 by rw [e1]; exact s 128 0 (by omega),
    show raise1 t 64#32 (BitVec.ofNat 32 a1) = BitVec.ofNat 32 a2 by rw [e2]; exact s 64 a1 (by omega),
    show raise1 t 32#32 (BitVec.ofNat 32 a2) = BitVec.ofNat 32 a3 by rw [e3]; exact s 32 a2 (by omega),
    show raise1 t 16#32 (BitVec.ofNat 32 a3) = BitVec.ofNat 32 a4 by rw [e4]; exact s 16 a3 (by omega),
    show raise1 t 8#32 (BitVec.ofNat 32 a4) = BitVec.ofNat 32 a5 by rw [e5]; exact s 8 a4 (by omega),
    show raise1 t 4#32 (BitVec.ofNat 32 a5) = BitVec.ofNat 32 a6 by rw [e6]; exact s 4 a5 (by omega),
    show raise1 t 2#32 (BitVec.ofNat 32 a6) = BitVec.ofNat 32 a7 by rw [e7]; exact s 2 a6 (by omega),
    show raise1 t 1#32 (BitVec.ofNat 32 a7) = BitVec.ofNat 32 a8 by rw [e8]; exact s 1 a7 (by omega), b8]

/-! ## The block exponent -/

/-- The exponent of a block whose greatest magnitude over 448 is `t`. -/
def expo (t : ℝ) : ℤ := if t = 0 then 0 else max (⌊Real.log t / Real.log 2⌋ + 1) (-126)

/-- The exponent lies between -126 and 110. -/
theorem expo_bounds {t : ℝ} (h0 : 0 ≤ t) (h1 : t < 2 ^ (110 : ℤ)) : -126 ≤ expo t ∧ expo t ≤ 110 := by
  unfold expo
  split_ifs with h
  · omega
  · have ht : 0 < t := lt_of_le_of_ne h0 (Ne.symm h)
    have : Real.log t / Real.log 2 < (110 : ℤ) := by
      rw [div_lt_iff₀ (Real.log_pos (by norm_num))]
      have := Real.log_lt_log ht h1
      rwa [Real.log_zpow] at this
    have := Int.floor_lt.2 this
    omega

/-- The scale's exponent field. -/
def field (t : EReal) : BitVec 32 := Scalar.select (Ideal.cmp .oeq t 0) 126#32 (search t)

/-- The exponent field is the exponent plus 126. -/
theorem field_eq {t : ℝ} (h0 : 0 ≤ t) (h1 : t < 2 ^ (110 : ℤ)) : field (t : EReal) = BitVec.ofNat 32 (expo t + 126).toNat := by
  obtain ⟨l, u⟩ := expo_bounds h0 h1
  unfold field
  by_cases h : t = 0
  · subst h
    simp [Ideal.cmp, Scalar.select, expo]
  have ht : 0 < t := lt_of_le_of_ne h0 (Ne.symm h)
  have hlog : 0 < Real.log 2 := Real.log_pos (by norm_num)
  have hsel : Scalar.select (Ideal.cmp .oeq (t : EReal) 0) 126#32 (search t) = search t := by
    have : (t : EReal) ≠ 0 := by exact_mod_cast h
    simp [Ideal.cmp, Scalar.select, this]
  rw [hsel]
  have key : ∀ k : ℤ, -126 ≤ k → ((2 : ℝ) ^ k ≤ t ↔ k + 1 ≤ expo t) := by
    intro k hk
    have e : (2 : ℝ) ^ k ≤ t ↔ k ≤ ⌊Real.log t / Real.log 2⌋ := by
      rw [Int.le_floor, le_div_iff₀ hlog, ← Real.log_zpow, Real.log_le_log_iff (by positivity) ht]
    rw [e, expo, if_neg h]
    omega
  refine search_eq (by omega) fun k hk => ?_
  rcases Nat.eq_zero_or_pos k with rfl | hk0
  · rw [pow2f_zero]; simp [h0]
  by_cases hk' : k = 255
  · subst hk'
    rw [pow2f_top]
    simp
    omega
  rw [pow2f_normal k hk0 (by omega), EReal.coe_le_coe_iff, key _ (by omega)]
  omega

/-- The factor's word: `2 ^ (-e)`. -/
theorem pow2f_inv {e : ℤ} (h0 : -126 ≤ e) (h1 : e ≤ 110) :
    pow2f (253#32 - BitVec.ofNat 32 (e + 126).toNat) = (((2 : ℝ) ^ (-e) : ℝ) : EReal) := by
  have : 253#32 - BitVec.ofNat 32 (e + 126).toNat = BitVec.ofNat 32 (253 - (e + 126).toNat) := by
    apply BitVec.eq_of_toNat_eq
    simp only [BitVec.toNat_sub, BitVec.toNat_ofNat]
    omega
  rw [this, pow2f_normal _ (by omega) (by omega)]
  congr 2
  omega

/-- The field plus one is the exponent plus 127. -/
theorem field_succ {e : ℤ} (h0 : -126 ≤ e) (h1 : e ≤ 110) :
    BitVec.ofNat 32 (e + 126).toNat + 1#32 = BitVec.ofInt 32 e + 127#32 := by
  obtain ⟨k, rfl⟩ : ∃ k : Fin 237, e = (k.val : ℤ) - 126 := ⟨⟨(e + 126).toNat, by omega⟩, by simp; omega⟩
  revert k
  decide +kernel

/-- An exponent's word reads back as the exponent. -/
theorem ofInt_toInt {e : ℤ} (h0 : -126 ≤ e) (h1 : e ≤ 110) : (BitVec.ofInt 32 e).toInt = e := by
  rw [BitVec.toInt_ofInt]
  apply Int.bmod_eq_of_le <;> simp <;> omega

/-! ## Constants -/

/-- The variance's offset. -/
def eps : ℝ := 10995116 * (2 : ℝ) ^ (-40 : ℤ)
/-- The offset is positive. -/
theorem eps_pos : 0 < eps := by unfold eps; positivity

/-- The bits of the offset. -/
theorem ofBits_eps : Ideal.ofBits .f32 0x3727C5AC#32 = ((eps : ℝ) : EReal) := by
  unfold Ideal.ofBits Ideal.ieee eps
  simp only [show (0x3727C5AC#32).extractLsb' 31 1 = 0#1 by decide, show ((0x3727C5AC#32).extractLsb' 23 8).toNat = 110 by decide,
    show ((0x3727C5AC#32).extractLsb' 0 23).toNat = 2606508 by decide]
  norm_num
/-- The bits of 448. -/
theorem ofBits_448 : Ideal.ofBits .f32 0x43E00000#32 = ((448 : ℝ) : EReal) := by
  unfold Ideal.ofBits Ideal.ieee
  simp only [show (0x43E00000#32).extractLsb' 31 1 = 0#1 by decide, show ((0x43E00000#32).extractLsb' 23 8).toNat = 135 by decide,
    show ((0x43E00000#32).extractLsb' 0 23).toNat = 6291456 by decide]
  norm_num
/-- The bits of -448. -/
theorem ofBits_neg448 : Ideal.ofBits .f32 0xC3E00000#32 = ((-448 : ℝ) : EReal) := by
  unfold Ideal.ofBits Ideal.ieee
  simp only [show (0xC3E00000#32).extractLsb' 31 1 = 1#1 by decide, show ((0xC3E00000#32).extractLsb' 23 8).toNat = 135 by decide,
    show ((0xC3E00000#32).extractLsb' 0 23).toNat = 6291456 by decide]
  norm_num
/-- The bits of -126. -/
theorem ofBits_neg126 : Ideal.ofBits .f32 0xC2FC0000#32 = ((-126 : ℝ) : EReal) := by
  unfold Ideal.ofBits Ideal.ieee
  simp only [show (0xC2FC0000#32).extractLsb' 31 1 = 1#1 by decide, show ((0xC2FC0000#32).extractLsb' 23 8).toNat = 133 by decide,
    show ((0xC2FC0000#32).extractLsb' 0 23).toNat = 8126464 by decide]
  norm_num
/-- The bits of 40960. -/
theorem ofBits_40960 : Ideal.ofBits .f32 0x47200000#32 = ((40960 : ℝ) : EReal) := by
  unfold Ideal.ofBits Ideal.ieee
  simp only [show (0x47200000#32).extractLsb' 31 1 = 0#1 by decide, show ((0x47200000#32).extractLsb' 23 8).toNat = 142 by decide,
    show ((0x47200000#32).extractLsb' 0 23).toNat = 2097152 by decide]
  norm_num
/-- The bits of 2. -/
theorem ofBits_two : Ideal.ofBits .f32 0x40000000#32 = ((2 : ℝ) : EReal) := by
  unfold Ideal.ofBits Ideal.ieee
  simp only [show (0x40000000#32).extractLsb' 31 1 = 0#1 by decide, show ((0x40000000#32).extractLsb' 23 8).toNat = 128 by decide,
    show ((0x40000000#32).extractLsb' 0 23).toNat = 0 by decide]
  norm_num
/-- The bits of 1. -/
theorem ofBits_one : Ideal.ofBits .f32 0x3F800000#32 = ((1 : ℝ) : EReal) := by
  unfold Ideal.ofBits Ideal.ieee
  simp only [show (0x3F800000#32).extractLsb' 31 1 = 0#1 by decide, show ((0x3F800000#32).extractLsb' 23 8).toNat = 127 by decide,
    show ((0x3F800000#32).extractLsb' 0 23).toNat = 0 by decide]
  norm_num
/-- The bits of minus infinity. -/
theorem ofBits_bot : Ideal.ofBits .f32 0xFF800000#32 = ⊥ := by
  unfold Ideal.ofBits Ideal.ieee
  simp only [show (0xFF800000#32).extractLsb' 31 1 = 1#1 by decide, show ((0xFF800000#32).extractLsb' 23 8).toNat = 255 by decide,
    show ((0xFF800000#32).extractLsb' 0 23).toNat = 0 by decide]
  norm_num

end Cert.Gn

end
-- ==== Proof.KernelValue.lean ====
/- The kernel body's functions read at an index, over the extended reals. -/
module

public import proofs.«01_k».proof.Proof.Run
public import proofs.«01_k».proof.Proof.Scalar

@[expose] public section

set_option maxRecDepth 16384

noncomputable section

namespace Cert.Gn

open Idealize.ShloMosaic Idealize.SL.Sem

/-! ## Contents put together from pieces, read at an index -/

/-- Contents put together from pieces, at an index of a piece, are the piece. -/
theorem glue_emb {s : Shape} {ι α : Type} {off size : ι → Fin s.rank → ℕ} {inb : ∀ i a, off i a + size i a ≤ s.size a}
    {r : ι → Rect s} (hr : ∀ i, r i = Rect.unit (off i) (size i) (inb i)) (ha : Apart r) (h : Cov r)
    (w : ∀ i, (r i).shape.Idx → α) (i : ι) (k : (r i).shape.Idx) : glue h w ((r i).emb k) = w i k := by
  obtain ⟨i', k', e, e'⟩ := glue_spec h w ((r i).emb k)
  rw [e']
  obtain rfl := ha _ _ _ _ e
  congr 1
  clear e'
  revert k k'
  rw [hr i']
  intro k k' e
  funext a
  have := coord_eq e a
  exact Fin.ext (by omega)

variable (K : Consts Ideal)
variable (x : Vec Ideal S1x1024x1280 .bf16) (ind : Vec Ideal S32x1280 .f32) (gam bet : Vec Ideal S1280x128 .f32)

/-- Groups' rows at a row. -/
theorem glue_rows {α : Type} (w : ∀ _ : Fin 32, S40x128.Idx → α) (g : Fin 32) (k : Fin 40) (l : Fin 128) (ch : Fin 1280)
    (h : ch.val = 40 * g.val + k.val) : glue (r := rRows) cov_rows w (ix2 ch l) = w g (ix2 k l) := by
  have e : (ix2 ch l : S1280x128.Idx) = (rRows g).emb (ix2 k l : S40x128.Idx) := by
    funext a; refine Fin.ext ?_
    rw [emb_val]
    match a with
    | ⟨0, _⟩ => exact h
    | ⟨1, _⟩ => simp
  rw [e]
  exact glue_emb (fun _ => rfl) apart_rows cov_rows w g _

/-- Statistics at an index. -/
theorem glue_stat {α : Type} (w : ∀ _ : Fin 2, S1x32x128.Idx → α) (i : Fin 2) (g : Fin 32) (l : Fin 128) :
    glue (r := rStat) cov_stat w (ix3 i g l) = w i (ix3 0 g l) := by
  have e : (ix3 i g l : S2x32x128.Idx) = (rStat i).emb (ix3 0 g l : S1x32x128.Idx) := by
    funext a; refine Fin.ext ?_
    rw [emb_val]
    match a with
    | ⟨0, _⟩ => simp
    | ⟨1, _⟩ => simp
    | ⟨2, _⟩ => simp
  rw [e]
  exact glue_emb (fun _ => rfl) apart_stat cov_stat w i _

/-- Blocks' rows at an index. -/
theorem glue_row {α : Type} (w : ∀ _ : Fin 8, S1x128.Idx → α) (j : Fin 8) (l : Fin 128) :
    glue (r := rRow) cov_row w (ix2 j l) = w j (ix2 0 l) := by
  have e : (ix2 j l : S8x128.Idx) = (rRow j).emb (ix2 0 l : S1x128.Idx) := by
    funext a; refine Fin.ext ?_
    rw [emb_val]
    match a with
    | ⟨0, _⟩ => simp
    | ⟨1, _⟩ => simp
  rw [e]
  exact glue_emb (fun _ => rfl) apart_row cov_row w j _

/-- Where a tile's index lies in the sample. -/
theorem emb_tile (t : Fin 4) (cg : Fin 5) (a : Fin 256) (b : Fin 256) (r : Fin 1024) (ch : Fin 1280) (hr : r.val = 256 * t.val + a.val)
    (hc : ch.val = 256 * cg.val + b.val) : (rTile t cg).emb (ix3 0 a b : S1x256x256.Idx) = (ix3 0 r ch : S1x1024x1280.Idx) := by
  funext d; refine Fin.ext ?_
  rw [emb_val, xOff_eq]
  match d with
  | ⟨0, _⟩ => simp
  | ⟨1, _⟩ => exact hr.symm
  | ⟨2, _⟩ => exact hc.symm

/-- Tiles at an index. -/
theorem glue_tiles {α : Type} (w : ∀ _ : Fin 4 × Fin 5, S1x256x256.Idx → α) (t : Fin 4) (cg : Fin 5) (a : Fin 256) (b : Fin 256) (r : Fin 1024)
    (ch : Fin 1280) (hr : r.val = 256 * t.val + a.val) (hc : ch.val = 256 * cg.val + b.val) :
    glue (r := rTiles) cov_tiles w (ix3 0 r ch) = w (t, cg) (ix3 0 a b) := by
  rw [← emb_tile t cg a b r ch hr hc]
  exact glue_emb (fun _ => rfl) apart_tiles cov_tiles w (t, cg) _

/-- Pieces of scales at an index. -/
theorem glue_scales {α : Type} (w : ∀ _ : Fin 4 × Fin 5 × Fin 2, S1x8x128.Idx → α) (t : Fin 4) (cg : Fin 5) (h : Fin 2) (j : Fin 8) (l : Fin 128)
    (b : Fin 40) (r : Fin 1024) (hb : b.val = 8 * cg.val + j.val) (hr : r.val = 256 * t.val + 128 * h.val + l.val) :
    glue (r := rScales) cov_scales w (ix3 0 b r) = w (t, cg, h) (ix3 0 j l) := by
  have e : (ix3 0 b r : S1x40x1024.Idx) = (rScale t cg h).emb (ix3 0 j l : S1x8x128.Idx) := by
    funext d; refine Fin.ext ?_
    rw [emb_val, sOff_eq]
    match d with
    | ⟨0, _⟩ => simp
    | ⟨1, _⟩ => exact hb
    | ⟨2, _⟩ => exact hr
  rw [e]
  exact glue_emb (fun _ => rfl) apart_scales cov_scales w (t, cg, h) _

/-! ## The sums -/

/-- The first eight of sixteen rows. -/
theorem halves_lo (v : Vec Ideal S1x16x128 .bf16) (i : Fin 8) (l : Fin 128) :
    (halves v).1 (ix2 i l) = v (ix3 0 ⟨i.val, by omega⟩ l) := by
  pointwise [halves]
/-- The last eight of sixteen rows. -/
theorem halves_hi (v : Vec Ideal S1x16x128 .bf16) (i : Fin 8) (l : Fin 128) :
    (halves v).2 (ix2 i l) = v (ix3 0 ⟨8 + i.val, by omega⟩ l) := by
  pointwise [halves]

/-- A piece of the sample at an index. -/
theorem pick_x (c : Fin 10) (k : Fin 64) (i : Fin 16) (l : Fin 128) (r : Fin 1024) (ch : Fin 1280) (hr : r.val = 16 * k.val + i.val)
    (hc : ch.val = 128 * c.val + l.val) : pick (rX c k) x (ix3 0 i l : S1x16x128.Idx) = x (ix3 0 r ch) := by
  refine congrArg x (funext fun d => Fin.ext ?_)
  rw [emb_val]
  match d with
  | ⟨0, _⟩ => simp
  | ⟨1, _⟩ => exact hr.symm
  | ⟨2, _⟩ => exact hc.symm

/-- A running pair of sums is the pair of sums. -/
theorem steps_sum {s : Shape} (y : s.Idx) : ∀ (n : ℕ) (p p' q q' : Fin n → FVec Ideal s .f32) (v : FVec Ideal s .f32 × FVec Ideal s .f32),
    (steps n (fun k acc => (addf (addf acc.1 (p k)) (p' k), addf (addf acc.2 (q k)) (q' k))) v).1 y = v.1 y + ∑ k, (p k y + p' k y)
    ∧ (steps n (fun k acc => (addf (addf acc.1 (p k)) (p' k), addf (addf acc.2 (q k)) (q' k))) v).2 y = v.2 y + ∑ k, (q k y + q' k y)
  | 0, _, _, _, _, v => by simp [steps]
  | n + 1, p, p', q, q', v => by
    obtain ⟨a, b⟩ := steps_sum y n (fun k => p k.succ) (fun k => p' k.succ) (fun k => q k.succ) (fun k => q' k.succ)
      (addf (addf v.1 (p 0)) (p' 0), addf (addf v.2 (q 0)) (q' 0))
    rw [Fin.sum_univ_succ, Fin.sum_univ_succ]
    refine ⟨Eq.trans a ?_, Eq.trans b ?_⟩
    · show v.1 y + p 0 y + p' 0 y + _ = _
      simp only [add_assoc]
    · show v.2 y + q 0 y + q' 0 y + _ = _
      simp only [add_assoc]

/-- Chunk `c`'s sums: row `16 k + i` and row `16 k + 8 + i` over all `k`. -/
theorem sumsV_apply (c : Fin 10) (i : Fin 8) (l : Fin 128) (ch : Fin 1280) (hc : ch.val = 128 * c.val + l.val) :
    (sumsV x c).1 (ix2 i l) = (∑ k : Fin 64, (x (ix3 0 ⟨16 * k.val + i.val, by omega⟩ ch) * x (ix3 0 ⟨16 * k.val + i.val, by omega⟩ ch)
      + x (ix3 0 ⟨16 * k.val + (8 + i.val), by omega⟩ ch) * x (ix3 0 ⟨16 * k.val + (8 + i.val), by omega⟩ ch)) : EReal)
    ∧ (sumsV x c).2 (ix2 i l) = (∑ k : Fin 64, (x (ix3 0 ⟨16 * k.val + i.val, by omega⟩ ch)
      + x (ix3 0 ⟨16 * k.val + (8 + i.val), by omega⟩ ch)) : EReal) := by
  obtain ⟨a, b⟩ := steps_sum (s := S8x128) (ix2 i l) 63
    (fun k => mulf (halves (pick (rX c k.succ) x)).1 (halves (pick (rX c k.succ) x)).1)
    (fun k => mulf (halves (pick (rX c k.succ) x)).2 (halves (pick (rX c k.succ) x)).2)
    (fun k => (halves (pick (rX c k.succ) x)).1) (fun k => (halves (pick (rX c k.succ) x)).2)
    (addf (mulf (halves (pick (rX c 0) x)).1 (halves (pick (rX c 0) x)).1) (mulf (halves (pick (rX c 0) x)).2 (halves (pick (rX c 0) x)).2),
      addf (halves (pick (rX c 0) x)).1 (halves (pick (rX c 0) x)).2)
  have lo : ∀ k : Fin 64, (halves (pick (rX c k) x)).1 (ix2 i l) = x (ix3 0 ⟨16 * k.val + i.val, by omega⟩ ch) := fun k =>
    (halves_lo _ i l).trans (pick_x x c k _ l _ ch rfl hc)
  have hi : ∀ k : Fin 64, (halves (pick (rX c k) x)).2 (ix2 i l) = x (ix3 0 ⟨16 * k.val + (8 + i.val), by omega⟩ ch) := fun k =>
    (halves_hi _ i l).trans (pick_x x c k _ l _ ch rfl hc)
  refine ⟨a.trans ?_, b.trans ?_⟩
  · rw [Fin.sum_univ_succ (n := 63)]
    show (halves (pick (rX c 0) x)).1 (ix2 i l) * (halves (pick (rX c 0) x)).1 (ix2 i l)
      + (halves (pick (rX c 0) x)).2 (ix2 i l) * (halves (pick (rX c 0) x)).2 (ix2 i l) + ∑ k : Fin 63,
      ((halves (pick (rX c k.succ) x)).1 (ix2 i l) * (halves (pick (rX c k.succ) x)).1 (ix2 i l)
      + (halves (pick (rX c k.succ) x)).2 (ix2 i l) * (halves (pick (rX c k.succ) x)).2 (ix2 i l)) = _
    simp only [lo, hi]
  · rw [Fin.sum_univ_succ (n := 63)]
    show (halves (pick (rX c 0) x)).1 (ix2 i l) + (halves (pick (rX c 0) x)).2 (ix2 i l) + ∑ k : Fin 63,
      ((halves (pick (rX c k.succ) x)).1 (ix2 i l) + (halves (pick (rX c k.succ) x)).2 (ix2 i l)) = _
    simp only [lo, hi]

end Cert.Gn

end
-- ==== Proof.KernelValue2.lean ====
/- The kernel body's statistics, rows and activations at an index, over the extended reals. -/
module

public import proofs.«01_k».proof.Proof.KernelValue

@[expose] public section

set_option maxRecDepth 16384

noncomputable section

namespace Cert.Gn

open Idealize.ShloMosaic Idealize.SL.Sem

variable (K : Consts Ideal)
variable (x : Vec Ideal S1x1024x1280 .bf16) (ind : Vec Ideal S32x1280 .f32) (gam bet : Vec Ideal S1280x128 .f32)

/-! ## The group statistics -/

/-- Ten chunks side by side, read at a lane. -/
theorem cat10_apply (p : Fin 10 → FVec Ideal S8x128 .f32) (i : Fin 8) (ch : Fin 1280) :
    concatenate S8x1280 1 [⟨S8x128, p 0⟩, ⟨S8x128, p 1⟩, ⟨S8x128, p 2⟩, ⟨S8x128, p 3⟩, ⟨S8x128, p 4⟩,
          ⟨S8x128, p 5⟩, ⟨S8x128, p 6⟩, ⟨S8x128, p 7⟩, ⟨S8x128, p 8⟩, ⟨S8x128, p 9⟩] cat10 (ix2 i ch)
      = p ⟨ch.val / 128, by omega⟩ (ix2 i ⟨ch.val % 128, Nat.mod_lt _ (by decide)⟩) := by
  have hc : ch.val / 128 < 10 := by omega
  obtain ⟨c, hc'⟩ : ∃ c : Fin 10, c = ⟨ch.val / 128, hc⟩ := ⟨_, rfl⟩
  have hv : ch.val / 128 = c.val := by rw [hc']
  rw [← hc']
  pointwise
  fin_cases c <;> simp only [] at hv <;>
    (repeat first | rw [dif_pos (by omega)] | rw [dif_neg (by omega)]) <;>
    (refine congrArg _ (congrArg _ (Fin.ext ?_)); simp only []; omega)

/-- A group's sums, of the values. -/
theorem groupSums_lo (g : Fin 10 → FVec Ideal S8x128 .f32 × FVec Ideal S8x128 .f32) (gi : Fin 32) (j : Fin 8) :
    groupSums g ind (ix2 gi ⟨j.val, by omega⟩)
      = ∑ ch : Fin 1280, ind (ix2 gi ch) * (g ⟨ch.val / 128, by omega⟩).2 (ix2 j ⟨ch.val % 128, Nat.mod_lt _ (by decide)⟩) := by
  have h := cat10_apply (fun c => (g c).2)
  unfold groupSums
  generalize concatenate S8x1280 1 [⟨S8x128, (g 0).2⟩, ⟨S8x128, (g 1).2⟩, ⟨S8x128, (g 2).2⟩, ⟨S8x128, (g 3).2⟩, ⟨S8x128, (g 4).2⟩,
          ⟨S8x128, (g 5).2⟩, ⟨S8x128, (g 6).2⟩, ⟨S8x128, (g 7).2⟩, ⟨S8x128, (g 8).2⟩, ⟨S8x128, (g 9).2⟩] cat10 = A at h ⊢
  generalize concatenate S8x1280 1 [⟨S8x128, (g 0).1⟩, ⟨S8x128, (g 1).1⟩, ⟨S8x128, (g 2).1⟩, ⟨S8x128, (g 3).1⟩, ⟨S8x128, (g 4).1⟩,
          ⟨S8x128, (g 5).1⟩, ⟨S8x128, (g 6).1⟩, ⟨S8x128, (g 7).1⟩, ⟨S8x128, (g 8).1⟩, ⟨S8x128, (g 9).1⟩] cat10 = B
  pointwise
  refine Finset.sum_congr rfl fun ch _ => congrArg _ ?_
  exact h j ch

/-- A group's sums, of the squares. -/
theorem groupSums_hi (g : Fin 10 → FVec Ideal S8x128 .f32 × FVec Ideal S8x128 .f32) (gi : Fin 32) (j : Fin 8) :
    groupSums g ind (ix2 gi ⟨8 + j.val, by omega⟩)
      = ∑ ch : Fin 1280, ind (ix2 gi ch) * (g ⟨ch.val / 128, by omega⟩).1 (ix2 j ⟨ch.val % 128, Nat.mod_lt _ (by decide)⟩) := by
  have h := cat10_apply (fun c => (g c).1)
  unfold groupSums
  generalize concatenate S8x1280 1 [⟨S8x128, (g 0).2⟩, ⟨S8x128, (g 1).2⟩, ⟨S8x128, (g 2).2⟩, ⟨S8x128, (g 3).2⟩, ⟨S8x128, (g 4).2⟩,
          ⟨S8x128, (g 5).2⟩, ⟨S8x128, (g 6).2⟩, ⟨S8x128, (g 7).2⟩, ⟨S8x128, (g 8).2⟩, ⟨S8x128, (g 9).2⟩] cat10 = A
  generalize concatenate S8x1280 1 [⟨S8x128, (g 0).1⟩, ⟨S8x128, (g 1).1⟩, ⟨S8x128, (g 2).1⟩, ⟨S8x128, (g 3).1⟩, ⟨S8x128, (g 4).1⟩,
          ⟨S8x128, (g 5).1⟩, ⟨S8x128, (g 6).1⟩, ⟨S8x128, (g 7).1⟩, ⟨S8x128, (g 8).1⟩, ⟨S8x128, (g 9).1⟩] cat10 = B at h ⊢
  pointwise
  refine Finset.sum_congr rfl fun ch _ => congrArg _ ?_
  exact h j ch

/-- The means from the sums. -/
theorem means_apply (s : FVec Ideal S32x16 .f32) (gi : Fin 32) :
    means K s (ix2 gi 0) = (∑ j : Fin 8, s (ix2 gi ⟨j.val, by omega⟩) : EReal) * K.invN := by
  pointwise [means]

/-- The reciprocal standard deviations from the sums. -/
theorem rstds_apply (s : FVec Ideal S32x16 .f32) (gi : Fin 32) :
    rstds K s (ix2 gi 0) = Ideal.rsqrt (max ((∑ j : Fin 8, s (ix2 gi ⟨8 + j.val, by omega⟩) : EReal) * K.invN
      - means K s (ix2 gi 0) * means K s (ix2 gi 0)) 0 + ((eps : ℝ) : EReal)) := by
  generalize hm : means K s = m
  unfold rstds
  rw [hm, ← ofBits_eps]
  pointwise

/-- A column spread over the lanes. -/
theorem lanes_apply (v : FVec Ideal S32x1 .f32) (gi : Fin 32) (l : Fin 128) : lanes v (ix3 0 gi l) = v (ix2 gi 0) := by
  pointwise [lanes]

/-- The kernel's mean and reciprocal standard deviation of a group. -/
def meanK (gi : Fin 32) : EReal := (∑ j : Fin 8, ∑ ch : Fin 1280, ind (ix2 gi ch) * ∑ k : Fin 64, (x (ix3 0 ⟨16 * k.val + j.val, by omega⟩ ch)
      + x (ix3 0 ⟨16 * k.val + (8 + j.val), by omega⟩ ch)) : EReal) * K.invN
def rstdK (gi : Fin 32) : EReal := Ideal.rsqrt (max ((∑ j : Fin 8, ∑ ch : Fin 1280, ind (ix2 gi ch) * ∑ k : Fin 64,
      (x (ix3 0 ⟨16 * k.val + j.val, by omega⟩ ch) * x (ix3 0 ⟨16 * k.val + j.val, by omega⟩ ch)
      + x (ix3 0 ⟨16 * k.val + (8 + j.val), by omega⟩ ch) * x (ix3 0 ⟨16 * k.val + (8 + j.val), by omega⟩ ch)) : EReal) * K.invN
      - meanK K x ind gi * meanK K x ind gi) 0 + ((eps : ℝ) : EReal))

/-- The means are the kernel's mean of each group. -/
theorem means_eq (gi : Fin 32) : means K (groupSums (sumsV x) ind) (ix2 gi 0) = meanK K x ind gi := by
  rw [means_apply]
  unfold meanK
  refine congrArg (· * K.invN) (Finset.sum_congr rfl fun j _ => ?_)
  rw [groupSums_lo]
  refine Finset.sum_congr rfl fun ch _ => congrArg _ ?_
  exact (sumsV_apply x _ j _ ch (by simp only []; omega)).2

/-- The reciprocal standard deviations are the kernel's of each group. -/
theorem rstds_eq (gi : Fin 32) : rstds K (groupSums (sumsV x) ind) (ix2 gi 0) = rstdK K x ind gi := by
  rw [rstds_apply, means_eq]
  unfold rstdK
  refine congrArg (fun z => Ideal.rsqrt (max (z * K.invN - _) 0 + _)) (Finset.sum_congr rfl fun j _ => ?_)
  rw [groupSums_hi]
  refine Finset.sum_congr rfl fun ch _ => congrArg _ ?_
  exact (sumsV_apply x _ j _ ch (by simp only []; omega)).1

/-- The first statistic stored is the mean. -/
theorem statV_mean (gi : Fin 32) (l : Fin 128) : statV K x ind (ix3 0 gi l) = meanK K x ind gi := by
  unfold statV
  rw [glue_stat (statW K x ind) 0 gi l]
  unfold statW
  rw [if_pos rfl, lanes_apply, means_eq]

/-- The second statistic stored is the reciprocal standard deviation. -/
theorem statV_rstd (gi : Fin 32) (l : Fin 128) : statV K x ind (ix3 1 gi l) = rstdK K x ind gi := by
  unfold statV
  rw [glue_stat (statW K x ind) 1 gi l]
  unfold statW
  rw [if_neg (by decide), lanes_apply, rstds_eq]

/-! ## The rows -/

/-- A row of the statistics at an index. -/
theorem pick_stat (y : Vec Ideal S2x32x128 .f32) (i : Fin 2) (g : Fin 32) (l : Fin 128) :
    pick (rStatRow i g) y (ix3 0 0 l : S1x1x128.Idx) = y (ix3 i g l) := by
  refine congrArg y (funext fun d => Fin.ext ?_)
  rw [emb_val]
  match d with
  | ⟨0, _⟩ => simp
  | ⟨1, _⟩ => simp
  | ⟨2, _⟩ => simp

/-- A group's rows at an index. -/
theorem pick_rows (y : Vec Ideal S1280x128 .f32) (g : Fin 32) (k : Fin 40) (l : Fin 128) (ch : Fin 1280) (h : ch.val = 40 * g.val + k.val) :
    pick (rRows g) y (ix2 k l : S40x128.Idx) = y (ix2 ch l) := by
  refine congrArg y (funext fun d => Fin.ext ?_)
  rw [emb_val]
  match d with
  | ⟨0, _⟩ => exact h.symm
  | ⟨1, _⟩ => simp

/-- A group's scale rows at an index. -/
theorem aRows_apply (rs : Vec Ideal S1x1x128 .f32) (gm : Vec Ideal S40x128 .f32) (k : Fin 40) (l : Fin 128) :
    aRows K rs gm (ix2 k l) = (gm (ix2 k l) * K.negLog2e * rs (ix3 0 0 l) : EReal) := by
  pointwise [aRows]
/-- A group's shift rows at an index. -/
theorem bRows_apply (a : FVec Ideal S40x128 .f32) (mn : Vec Ideal S1x1x128 .f32) (bt : Vec Ideal S40x128 .f32) (k : Fin 40) (l : Fin 128) :
    bRows K a mn bt (ix2 k l) = (bt (ix2 k l) * K.negLog2e - a (ix2 k l) * mn (ix3 0 0 l) : EReal) := by
  pointwise [bRows]

/-- A cast to the same shape changes nothing (40 rows). -/
theorem cast40 (v : FVec Ideal S40x128 .f32) (h) (k : Fin 40) (l : Fin 128) : shapeCast S40x128 v h (ix2 k l) = v (ix2 k l) := by
  pointwise

/-- A row's scale and shift. -/
def scaleK (ch : Fin 1280) (l : Fin 128) : EReal := gam (ix2 ch l) * K.negLog2e * rstdK K x ind ⟨ch.val / 40, by omega⟩
def shiftK (ch : Fin 1280) (l : Fin 128) : EReal :=
  bet (ix2 ch l) * K.negLog2e - scaleK K x ind gam ch l * meanK K x ind ⟨ch.val / 40, by omega⟩

/-- The scale rows at an index. -/
theorem aV_apply (ch : Fin 1280) (l : Fin 128) : aV K x ind gam (ix2 ch l) = scaleK K x ind gam ch l := by
  have hg : ch.val / 40 < 32 := by omega
  have hch : ch.val = 40 * (⟨ch.val / 40, hg⟩ : Fin 32).val + (⟨ch.val % 40, Nat.mod_lt _ (by decide)⟩ : Fin 40).val := by simp only []; omega
  unfold aV
  rw [glue_rows (aW K x ind gam) _ _ l ch hch]
  unfold aW
  refine (cast40 _ _ _ l).trans ((aRows_apply K _ _ _ l).trans ?_)
  rw [pick_rows gam _ _ l ch hch, pick_stat, statV_rstd]
  rfl

/-- The shift rows at an index. -/
theorem bV_apply (ch : Fin 1280) (l : Fin 128) : bV K x ind gam bet (ix2 ch l) = shiftK K x ind gam bet ch l := by
  have hg : ch.val / 40 < 32 := by omega
  have hch : ch.val = 40 * (⟨ch.val / 40, hg⟩ : Fin 32).val + (⟨ch.val % 40, Nat.mod_lt _ (by decide)⟩ : Fin 40).val := by simp only []; omega
  unfold bV
  rw [glue_rows (bW K x ind gam bet) _ _ l ch hch]
  unfold bW
  refine (cast40 _ _ _ l).trans ((bRows_apply K _ _ _ _ l).trans ?_)
  rw [aRows_apply, pick_rows gam _ _ l ch hch, pick_rows bet _ _ l ch hch, pick_stat, pick_stat, statV_rstd, statV_mean]
  rfl

end Cert.Gn

end
-- ==== Proof.KernelValue3.lean ====
/- The kernel body's activations, exponents and codes at an index, over the extended reals. -/
module

public import proofs.«01_k».proof.Proof.KernelValue2

@[expose] public section

set_option maxRecDepth 16384

noncomputable section

namespace Cert.Gn

open Idealize.ShloMosaic Idealize.SL.Sem

variable (K : Consts Ideal)
variable (x : Vec Ideal S1x1024x1280 .bf16) (ind : Vec Ideal S32x1280 .f32) (gam bet : Vec Ideal S1280x128 .f32)

/-! ## Casts between equal shapes -/

/-- A cast to the same shape changes nothing (256 rows). -/
theorem cast256 (v : FVec Ideal S256x256 .f32) (h) (a b : Fin 256) : shapeCast S256x256 v h (ix2 a b) = v (ix2 a b) := by
  pointwise

/-- A cast to the same shape changes nothing (8 rows). -/
theorem cast8 (v : FVec Ideal S8x128 .f32) (h) (j : Fin 8) (l : Fin 128) : shapeCast S8x128 v h (ix2 j l) = v (ix2 j l) := by
  pointwise

/-- A tile under its leading axis. -/
theorem castTile (v : FVec Ideal S256x256 .fp8e4m3) (h) (a b : Fin 256) : shapeCast S1x256x256 v h (ix3 0 a b) = v (ix2 a b) := by
  pointwise

/-! ## The identity tile -/

/-- The diagonal is where row and column agree. -/
theorem diag_apply : ∀ a b : Fin 256, diag (ix2 a b) = BitVec.ofBool (decide (a = b)) := by
  intro a b
  unfold diag
  pointwise
  show BitVec.ofBool (BitVec.ofNat 32 a.val == BitVec.ofNat 32 b.val) = _
  congr 1
  rw [Bool.eq_iff_iff, beq_iff_eq, decide_eq_true_iff]
  constructor
  · intro h
    have h := congrArg BitVec.toNat h
    simp only [BitVec.toNat_ofNat] at h
    exact Fin.ext (by omega)
  · rintro rfl; rfl

/-- The identity matrix at an index. -/
theorem eye_apply (a b : Fin 256) : (sitofp (F := Ideal) .f32 (extui 32 diag (by decide))) (ix2 a b) = if a = b then (1 : EReal) else 0 := by
  pointwise
  rw [diag_apply]
  by_cases h : a = b
  · simp only [h, decide_true]
    exact (show (((1#32 : BitVec 32).toInt : ℝ) : EReal) = 1 by norm_num)
  · simp only [h, decide_false]
    exact (show (((0#32 : BitVec 32).toInt : ℝ) : EReal) = 0 by norm_num)

/-- The product with the identity transposes a tile of the sample. -/
theorem flip16_apply (v : Vec Ideal S1x256x256 .bf16) (a b : Fin 256) : flip16 v (ix2 a b) = v (ix3 0 b a) := by
  have h := eye_apply
  unfold flip16 eye16
  generalize sitofp (F := Ideal) .f32 (extui 32 diag (by decide)) = E at h ⊢
  pointwise
  simp only [h]
  simp

/-- The product with the identity transposes the two lane halves of codes. -/
theorem flip8_apply (q0 q1 : FVec Ideal S256x128 .fp8e4m3) (a b : Fin 256) :
    flip8 q0 q1 (ix2 a b) = if h : a.val < 128 then q0 (ix2 b ⟨a.val, h⟩) else q1 (ix2 b ⟨a.val - 128, by omega⟩) := by
  have h := eye_apply
  unfold flip8 eye8
  generalize sitofp (F := Ideal) .f32 (extui 32 diag (by decide)) = E at h ⊢
  pointwise
  simp only [h]
  split
  · next ha =>
    rw [Finset.sum_eq_single (⟨a.val, ha⟩ : Fin 128), Finset.sum_eq_zero]
    · rw [if_pos rfl, one_mul, add_zero]
    · intro y _
      rw [if_neg (fun e => by have := congrArg Fin.val e; simp only [] at this; omega), zero_mul]
    · intro y _ hy
      rw [if_neg (show ¬ a = ⟨y.val, by omega⟩ from fun e => hy (Fin.ext (congrArg Fin.val e).symm)), zero_mul]
    · intro hn; exact absurd (Finset.mem_univ _) hn
  · next ha =>
    rw [Finset.sum_eq_zero, Finset.sum_eq_single (⟨a.val - 128, by omega⟩ : Fin 128)]
    · rw [if_pos (Fin.ext (by simp only []; omega)), one_mul, zero_add]
    · intro y _ hy
      rw [if_neg (fun e => hy (Fin.ext (by have := congrArg Fin.val e; simp only [] at this ⊢; omega))), zero_mul]
    · intro hn; exact absurd (Finset.mem_univ _) hn
    · intro y _
      rw [if_neg (fun e => by have := congrArg Fin.val e; simp only [] at this; omega), zero_mul]

/-! ## The activations -/

/-- `w · 1/(1 + 2^w)`. -/
def silu2 (w : EReal) : EReal := w * Ideal.div ((1 : ℝ) : EReal) (((1 : ℝ) : EReal) + Ideal.exp2 w)

/-- A block's activations at an index. -/
theorem act_apply (a b c : Vec Ideal S32x128 .f32) (k : Fin 32) (l : Fin 128) :
    act a b c (ix2 k l) = silu2 (a (ix2 k l) * b (ix2 k l) + c (ix2 k l)) := by
  unfold silu2
  rw [← ofBits_one]
  pointwise [act]
  rfl

/-- An element's activation. -/
def actK (r : Fin 1024) (ch : Fin 1280) : EReal :=
  silu2 (x (ix3 0 r ch) * scaleK K x ind gam ch ⟨r.val % 128, Nat.mod_lt _ (by decide)⟩ + shiftK K x ind gam bet ch ⟨r.val % 128, Nat.mod_lt _ (by decide)⟩)

/-- A block's activations are the kernel's activation of each element. -/
theorem uV_apply (t : Fin 4) (cg : Fin 5) (h : Fin 2) (j : Fin 8) (k : Fin 32) (l : Fin 128) (r : Fin 1024) (ch : Fin 1280)
    (hr : r.val = 256 * t.val + 128 * h.val + l.val) (hc : ch.val = 256 * cg.val + 32 * j.val + k.val) :
    uV K x ind gam bet t cg h j (ix2 k l) = actK K x ind gam bet r ch := by
  have hl : (⟨r.val % 128, Nat.mod_lt _ (by decide)⟩ : Fin 128) = l := Fin.ext (by simp only []; omega)
  have ea : ∀ y : Vec Ideal S1280x128 .f32, pick (rAb cg j) y (ix2 k l : S32x128.Idx) = y (ix2 ch l) := fun y => by
    refine congrArg y (funext fun d => Fin.ext ?_)
    rw [emb_val]
    match d with
    | ⟨0, _⟩ => exact hc.symm
    | ⟨1, _⟩ => simp
  have ex : pick (rXt h j) (xtV x t cg) (ix2 k l : S32x128.Idx) = x (ix3 0 r ch) := by
    have e : (rXt h j).emb (ix2 k l : S32x128.Idx) = (ix2 ⟨32 * j.val + k.val, by omega⟩ ⟨128 * h.val + l.val, by omega⟩ : S256x256.Idx) := by
      funext d; refine Fin.ext ?_
      rw [emb_val]
      match d with
      | ⟨0, _⟩ => simp
      | ⟨1, _⟩ => simp
    show xtV x t cg ((rXt h j).emb (ix2 k l : S32x128.Idx)) = _
    rw [e]
    unfold xtV
    refine (cast256 (flip16 (pick (rTile t cg) x)) _ _ _).trans ?_
    rw [flip16_apply]
    exact congrArg x (emb_tile t cg _ _ r ch (by simp only []; omega) (by simp only []; omega))
  unfold uV actK
  rw [act_apply, ea, ea, ex, aV_apply, bV_apply, hl]

/-! ## The exponents -/

/-- A block's greatest magnitude, taken in four parts, is the greatest of its 32 magnitudes. -/
theorem absf_slice (u : FVec Ideal S32x128 .f32) (l : Fin 128) :
    amax u (ix2 0 l) = (Finset.univ : Finset (Fin 32)).sup fun k => max (u (ix2 k l)) (-(u (ix2 k l))) := by
  have e : amax u (ix2 0 l) = (Finset.univ : Finset (Fin 8)).sup fun i =>
      max (max (max (u (ix2 ⟨i.val, by omega⟩ l)) (-(u (ix2 ⟨i.val, by omega⟩ l)))) (max (u (ix2 ⟨8 + i.val, by omega⟩ l)) (-(u (ix2 ⟨8 + i.val, by omega⟩ l)))))
        (max (max (u (ix2 ⟨16 + i.val, by omega⟩ l)) (-(u (ix2 ⟨16 + i.val, by omega⟩ l)))) (max (u (ix2 ⟨24 + i.val, by omega⟩ l)) (-(u (ix2 ⟨24 + i.val, by omega⟩ l))))) := by
    unfold Finset.sup
    rw [← ofBits_bot]
    pointwise [amax]
    rfl
  rw [e]
  refine le_antisymm (Finset.sup_le fun i _ => ?_) (Finset.sup_le fun k _ => ?_)
  · have hs : ∀ k : Fin 32, max (u (ix2 k l)) (-(u (ix2 k l))) ≤ (Finset.univ : Finset (Fin 32)).sup fun k => max (u (ix2 k l)) (-(u (ix2 k l))) :=
      fun k => Finset.le_sup (f := fun k => max (u (ix2 k l)) (-(u (ix2 k l)))) (Finset.mem_univ k)
    exact max_le (max_le (hs _) (hs _)) (max_le (hs _) (hs _))
  · refine le_trans ?_ (Finset.le_sup (Finset.mem_univ (⟨k.val % 8, Nat.mod_lt _ (by decide)⟩ : Fin 8)))
    obtain ⟨q, hq, hk⟩ : ∃ q : Fin 8, q = ⟨k.val % 8, Nat.mod_lt _ (by decide)⟩ ∧ (k.val = q.val ∨ k.val = 8 + q.val ∨ k.val = 16 + q.val ∨ k.val = 24 + q.val) :=
      ⟨_, rfl, by have := k.2; simp only []; omega⟩
    rw [← hq]
    rcases hk with h | h | h | h
    · rw [show k = ⟨q.val, by omega⟩ from Fin.ext h]
      exact le_max_of_le_left (le_max_left _ _)
    · rw [show k = ⟨8 + q.val, by omega⟩ from Fin.ext h]
      exact le_max_of_le_left (le_max_right _ _)
    · rw [show k = ⟨16 + q.val, by omega⟩ from Fin.ext h]
      exact le_max_of_le_right (le_max_left _ _)
    · rw [show k = ⟨24 + q.val, by omega⟩ from Fin.ext h]
      exact le_max_of_le_right (le_max_right _ _)

/-- A step of the search at an index. -/
theorem raise_apply (t : FVec Ideal S8x128 .f32) (p : BitVec 32) (e : IVec S8x128 32) (i : S8x128.Idx) :
    raise t p e i = raise1 (t i) p (e i) := rfl

/-- The search at an index. -/
theorem expField_apply (t : FVec Ideal S8x128 .f32) (i : S8x128.Idx) : expField t i = search (t i) := by
  unfold expField search
  simp only [raise_apply]
  rfl

/-- The exponent fields at an index. -/
theorem fields_apply (m : Vec Ideal S8x128 .f32) (j : Fin 8) (l : Fin 128) :
    fields K m (ix2 j l) = field (m (ix2 j l) * K.ln2Over448) := by
  unfold field
  rw [← Ideal.ofBits_zero_f32]
  have e : (mulf m (broadcast S8x128 K.ln2Over448)) (ix2 j l) = m (ix2 j l) * K.ln2Over448 := rfl
  rw [← e, ← expField_apply]
  rfl

/-- The inverse scales at an index. -/
theorem factors_apply (ef : IVec S8x128 32) (j : Fin 8) (l : Fin 128) :
    factors (F := Ideal) K ef (ix2 j l) = (pow2f (253#32 - ef (ix2 j l)) * K.negLn2 : EReal) := rfl

/-- A block's greatest magnitude. -/
def amaxK (r : Fin 1024) (b : Fin 40) : EReal :=
  (Finset.univ : Finset (Fin 32)).sup fun k =>
    max (actK K x ind gam bet r ⟨32 * b.val + k.val, by omega⟩) (-(actK K x ind gam bet r ⟨32 * b.val + k.val, by omega⟩))

/-- A block's exponent field. -/
def fieldK (r : Fin 1024) (b : Fin 40) : BitVec 32 := field (amaxK K x ind gam bet r b * K.ln2Over448)

/-- A piece's exponent fields are the blocks' exponent fields. -/
theorem efV_apply (t : Fin 4) (cg : Fin 5) (h : Fin 2) (j : Fin 8) (l : Fin 128) (r : Fin 1024) (b : Fin 40)
    (hr : r.val = 256 * t.val + 128 * h.val + l.val) (hb : b.val = 8 * cg.val + j.val) :
    efV K x ind gam bet t cg h (ix2 j l) = fieldK K x ind gam bet r b := by
  unfold efV fieldK
  rw [fields_apply]
  refine congrArg (fun z => field (z * K.ln2Over448)) ?_
  have e : (rRed).emb (ix2 j l : S8x128.Idx) = (ix2 j l : S8x128.Idx) := by
    funext d; refine Fin.ext ?_
    rw [emb_val]
    match d with
    | ⟨0, _⟩ => simp
    | ⟨1, _⟩ => simp
  show redV K x ind gam bet t cg h ((rRed).emb (ix2 j l : S8x128.Idx)) = _
  rw [e]
  unfold redV
  rw [glue_row (redW K x ind gam bet t cg h) j l]
  unfold redW
  refine (show shapeCast S1x128 (amax (uV K x ind gam bet t cg h j)) (by decide) (ix2 0 l) = amax (uV K x ind gam bet t cg h j) (ix2 0 l) from by pointwise).trans ?_
  rw [absf_slice]
  unfold amaxK
  refine congrArg _ (funext fun k => ?_)
  rw [uV_apply K x ind gam bet t cg h j k l r ⟨32 * b.val + k.val, by omega⟩ hr (by simp only []; omega)]

/-! ## The codes -/

/-- An element's code. -/
def codeK (r : Fin 1024) (ch : Fin 1280) : EReal :=
  min ((448 : ℝ) : EReal) (max ((-448 : ℝ) : EReal)
    (actK K x ind gam bet r ch * (pow2f (253#32 - fieldK K x ind gam bet r ⟨ch.val / 32, by omega⟩) * K.negLn2)))

/-- A block's codes at an index. -/
theorem quant_apply (u : FVec Ideal S32x128 .f32) (f : Vec Ideal S1x128 .f32) (k : Fin 32) (l : Fin 128) :
    quant u f (ix2 k l) = min ((448 : ℝ) : EReal) (max ((-448 : ℝ) : EReal) (u (ix2 k l) * f (ix2 0 l))) := by
  rw [← ofBits_448, ← ofBits_neg448]
  pointwise [quant]

/-- Eight blocks of rows, read at a row. -/
theorem cat8_apply (p : Fin 8 → FVec Ideal S32x128 .fp8e4m3) (a : Fin 256) (l : Fin 128) :
    concatenate S256x128 0 [⟨S32x128, p 0⟩, ⟨S32x128, p 1⟩, ⟨S32x128, p 2⟩, ⟨S32x128, p 3⟩, ⟨S32x128, p 4⟩,
          ⟨S32x128, p 5⟩, ⟨S32x128, p 6⟩, ⟨S32x128, p 7⟩] cat8 (ix2 a l)
      = p ⟨a.val / 32, by omega⟩ (ix2 ⟨a.val % 32, Nat.mod_lt _ (by decide)⟩ l) := by
  have hc : a.val / 32 < 8 := by omega
  obtain ⟨c, hc'⟩ : ∃ c : Fin 8, c = ⟨a.val / 32, hc⟩ := ⟨_, rfl⟩
  have hv : a.val / 32 = c.val := by rw [hc']
  rw [← hc']
  pointwise
  fin_cases c <;> simp only [] at hv <;>
    (repeat first | rw [dif_pos (by omega)] | rw [dif_neg (by omega)]) <;>
    (refine congrArg _ (congrArg (ix2 · _) (Fin.ext ?_)); simp only []; omega)

/-- A lane half's codes are the elements' codes. -/
theorem halfV_apply (t : Fin 4) (cg : Fin 5) (h : Fin 2) (a : Fin 256) (l : Fin 128) (r : Fin 1024) (ch : Fin 1280)
    (hr : r.val = 256 * t.val + 128 * h.val + l.val) (hc : ch.val = 256 * cg.val + a.val) :
    halfV K x ind gam bet t cg h (ix2 a l) = codeK K x ind gam bet r ch := by
  unfold halfV
  rw [cat8_apply (fun j => quant (uV K x ind gam bet t cg h j) (pick (rRow j) (invV K x ind gam bet t cg h))) a l]
  rw [quant_apply, uV_apply K x ind gam bet t cg h _ _ l r ch hr (by simp only []; omega)]
  have hj : a.val / 32 < 8 := by omega
  have e : pick (rRow ⟨a.val / 32, hj⟩) (invV K x ind gam bet t cg h) (ix2 0 l : S1x128.Idx)
      = pow2f (253#32 - fieldK K x ind gam bet r ⟨ch.val / 32, by omega⟩) * K.negLn2 := by
    have e : (rRow ⟨a.val / 32, hj⟩).emb (ix2 0 l : S1x128.Idx) = (ix2 ⟨a.val / 32, hj⟩ l : S8x128.Idx) := by
      funext d; refine Fin.ext ?_
      rw [emb_val]
      match d with
      | ⟨0, _⟩ => simp
      | ⟨1, _⟩ => simp
    show invV K x ind gam bet t cg h ((rRow ⟨a.val / 32, hj⟩).emb (ix2 0 l : S1x128.Idx)) = _
    rw [e]
    unfold invV
    refine (cast8 (factors K (efV K x ind gam bet t cg h)) _ _ l).trans ?_
    rw [factors_apply, efV_apply K x ind gam bet t cg h _ l r ⟨ch.val / 32, by omega⟩ hr (by simp only []; omega)]
  rw [e]
  rfl

/-- The block of codes at an index. -/
theorem codesV_apply (r : Fin 1024) (ch : Fin 1280) : codesV K x ind gam bet (ix3 0 r ch) = codeK K x ind gam bet r ch := by
  have ht : r.val / 256 < 4 := by omega
  have hg : ch.val / 256 < 5 := by omega
  unfold codesV
  rw [glue_tiles (codesW K x ind gam bet) ⟨r.val / 256, ht⟩ ⟨ch.val / 256, hg⟩ ⟨r.val % 256, Nat.mod_lt _ (by decide)⟩
    ⟨ch.val % 256, Nat.mod_lt _ (by decide)⟩ r ch (by simp only []; omega) (by simp only []; omega)]
  unfold codesW
  generalize hA : flip8 (halfV K x ind gam bet (⟨r.val / 256, ht⟩ : Fin 4) (⟨ch.val / 256, hg⟩ : Fin 5) 0) (halfV K x ind gam bet ⟨r.val / 256, ht⟩ ⟨ch.val / 256, hg⟩ 1) = A
  refine (castTile A _ _ _).trans ?_
  rw [← hA, flip8_apply]
  split
  · next h => exact halfV_apply K x ind gam bet _ _ 0 _ _ r ch (by simp only [] at h ⊢; simp; omega) (by simp only []; omega)
  · next h => exact halfV_apply K x ind gam bet _ _ 1 _ _ r ch (by simp only [] at h ⊢; simp; omega) (by simp only []; omega)

/-- The block of scales at an index. -/
theorem scaleV_apply (b : Fin 40) (r : Fin 1024) : scaleV K x ind gam bet (ix3 0 b r) = fieldK K x ind gam bet r b + 1#32 := by
  have ht : r.val / 256 < 4 := by omega
  have hg : b.val / 8 < 5 := by omega
  have hh : r.val % 256 / 128 < 2 := by omega
  unfold scaleV
  rw [glue_scales (scaleW K x ind gam bet) ⟨r.val / 256, ht⟩ ⟨b.val / 8, hg⟩ ⟨r.val % 256 / 128, hh⟩ ⟨b.val % 8, Nat.mod_lt _ (by decide)⟩
    ⟨r.val % 128, Nat.mod_lt _ (by decide)⟩ b r (by simp only []; omega) (by simp only []; omega)]
  unfold scaleW
  rw [← efV_apply K x ind gam bet ⟨r.val / 256, ht⟩ ⟨b.val / 8, hg⟩ ⟨r.val % 256 / 128, hh⟩ ⟨b.val % 8, Nat.mod_lt _ (by decide)⟩
    ⟨r.val % 128, Nat.mod_lt _ (by decide)⟩ r b (by simp only []; omega) (by simp only []; omega)]
  generalize efV K x ind gam bet (⟨r.val / 256, ht⟩ : Fin 4) (⟨b.val / 8, hg⟩ : Fin 5) (⟨r.val % 256 / 128, hh⟩ : Fin 2) = A
  pointwise
  rfl

end Cert.Gn

end
-- ==== Proof.Spec.lean ====
/- What both programs compute, over the reals: the group statistics, the activation, the blocks' exponents and the
   codes; with the facts about them both sides use. -/
module

public import proofs.«01_k».proof.Proof.Scalar

@[expose] public section

noncomputable section

namespace Cert.Gn

/-- Channel `k` of group `g`. -/
def grp (g : Fin 32) (k : Fin 40) : Fin 1280 := ⟨40 * g.val + k.val, by omega⟩
/-- The group of a channel. -/
def grpOf (ch : Fin 1280) : Fin 32 := ⟨ch.val / 40, by omega⟩
/-- Element `k` of block `b`. -/
def blk (b : Fin 40) (k : Fin 32) : Fin 1280 := ⟨32 * b.val + k.val, by omega⟩
/-- The block of a channel. -/
def blkOf (ch : Fin 1280) : Fin 40 := ⟨ch.val / 32, by omega⟩

variable (X : Fin 1024 → Fin 1280 → ℝ) (G B : Fin 1280 → ℝ)

/-- A group's mean. -/
def mean (g : Fin 32) : ℝ := (∑ r : Fin 1024, ∑ k : Fin 40, X r (grp g k)) * (1 / 40960)
/-- A group's variance. -/
def var (g : Fin 32) : ℝ := (∑ r : Fin 1024, ∑ k : Fin 40, (X r (grp g k) - mean X g) * (X r (grp g k) - mean X g)) * (1 / 40960)
/-- A normalised element, scaled and shifted. -/
def nrm (r : Fin 1024) (ch : Fin 1280) : ℝ := (X r ch - mean X (grpOf ch)) * (√(var X (grpOf ch) + eps))⁻¹ * G ch + B ch
/-- `v / (1 + exp (-v))`. -/
def silu (v : ℝ) : ℝ := v * (1 / (1 + Real.exp (-v)))
/-- An element's activation. -/
def yv (r : Fin 1024) (ch : Fin 1280) : ℝ := silu (nrm X G B r ch)
/-- A block's greatest magnitude. -/
def amx (r : Fin 1024) (b : Fin 40) : ℝ := (Finset.univ : Finset (Fin 32)).sup' ⟨0, Finset.mem_univ _⟩ fun k => |yv X G B r (blk b k)|
/-- A block's exponent. -/
def ex (r : Fin 1024) (b : Fin 40) : ℤ := expo (amx X G B r b * (1 / 448))
/-- An element's code. -/
def code (r : Fin 1024) (ch : Fin 1280) : ℝ := min 448 (max (-448) (yv X G B r ch * 2 ^ (-ex X G B r (blkOf ch))))

/-! ## Sums -/

/-- The kernel's order of the rows sums them all. -/
theorem sum_rows (f : Fin 1024 → ℝ) :
    ∑ j : Fin 8, ∑ k : Fin 64, (f ⟨16 * k.val + j.val, by omega⟩ + f ⟨16 * k.val + (8 + j.val), by omega⟩) = ∑ r, f r := by
  have h : ∑ r, f r = ∑ k : Fin 64, ∑ i : Fin 16, f ⟨16 * k.val + i.val, by omega⟩ := by
    rw [← Fintype.sum_prod_type' (f := fun (k : Fin 64) (i : Fin 16) => f ⟨16 * k.val + i.val, by omega⟩)]
    refine (Fintype.sum_equiv (finProdFinEquiv (m := 64) (n := 16)) _ _ fun p => ?_).symm
    refine congrArg f (Fin.ext ?_)
    show 16 * p.1.val + p.2.val = p.2.val + 16 * p.1.val
    omega
  rw [h, Finset.sum_comm]
  refine Finset.sum_congr rfl fun k _ => ?_
  rw [Fin.sum_univ_add (a := 8) (b := 8), ← Finset.sum_add_distrib]
  rfl

/-- The indicator's sum over the channels is the group's. -/
theorem sum_chans (f : Fin 1280 → ℝ) (g : Fin 32) :
    ∑ ch : Fin 1280, (if grpOf ch = g then (1 : ℝ) else 0) * f ch = ∑ k : Fin 40, f (grp g k) := by
  have h : ∑ ch : Fin 1280, (if grpOf ch = g then (1 : ℝ) else 0) * f ch
      = ∑ h : Fin 32, ∑ k : Fin 40, (if h = g then (1 : ℝ) else 0) * f (grp h k) := by
    rw [← Fintype.sum_prod_type' (f := fun (h : Fin 32) (k : Fin 40) => (if h = g then (1 : ℝ) else 0) * f (grp h k))]
    refine (Fintype.sum_equiv (finProdFinEquiv (m := 32) (n := 40)) _ _ fun p => ?_).symm
    have e1 : grpOf (finProdFinEquiv p) = p.1 := Fin.ext (by
      show (p.2.val + 40 * p.1.val) / 40 = p.1.val
      omega)
    have e2 : finProdFinEquiv p = grp p.1 p.2 := Fin.ext (by
      show p.2.val + 40 * p.1.val = 40 * p.1.val + p.2.val
      omega)
    show _ = (if grpOf (finProdFinEquiv p) = g then (1 : ℝ) else 0) * f (finProdFinEquiv p)
    rw [e1, e2]
  rw [h, Finset.sum_eq_single g]
  · simp
  · intro b _ hb; simp [hb]
  · intro hn; exact absurd (Finset.mem_univ _) hn

/-- The kernel's order of summation over a group is the plain one. -/
theorem sum_group (f : Fin 1024 → Fin 1280 → ℝ) (g : Fin 32) :
    ∑ j : Fin 8, ∑ ch : Fin 1280, (if grpOf ch = g then (1 : ℝ) else 0) * ∑ k : Fin 64,
      (f ⟨16 * k.val + j.val, by omega⟩ ch + f ⟨16 * k.val + (8 + j.val), by omega⟩ ch) = ∑ r, ∑ k : Fin 40, f r (grp g k) := by
  rw [Finset.sum_comm]
  simp only [← Finset.mul_sum]
  rw [Finset.sum_comm (s := (Finset.univ : Finset (Fin 1024))), ← sum_chans (fun ch => ∑ r, f r ch) g]
  refine Finset.sum_congr rfl fun ch _ => ?_
  rw [sum_rows (fun r => f r ch)]

/-- The variance from the mean of the squares. -/
theorem var_eq (g : Fin 32) :
    (∑ r : Fin 1024, ∑ k : Fin 40, X r (grp g k) * X r (grp g k)) * (1 / 40960) - mean X g * mean X g = var X g := by
  have h : ∑ r : Fin 1024, ∑ k : Fin 40, (X r (grp g k) - mean X g) * (X r (grp g k) - mean X g)
      = (∑ r : Fin 1024, ∑ k : Fin 40, X r (grp g k) * X r (grp g k)) - 2 * mean X g * (∑ r : Fin 1024, ∑ k : Fin 40, X r (grp g k))
        + 40960 * (mean X g * mean X g) := by
    generalize mean X g = μ
    have e : ∀ a : ℝ, (a - μ) * (a - μ) = a * a - 2 * μ * a + μ * μ := fun a => by ring
    simp only [e, Finset.sum_add_distrib, Finset.sum_sub_distrib, ← Finset.mul_sum, Finset.sum_const, Finset.card_univ, Fintype.card_fin,
      nsmul_eq_mul]
    push_cast
    ring
  have hm : ∑ r : Fin 1024, ∑ k : Fin 40, X r (grp g k) = 40960 * mean X g := by
    unfold mean
    ring
  unfold var
  rw [h, hm]
  ring

/-- A variance is not negative. -/
theorem var_nonneg (g : Fin 32) : 0 ≤ var X g :=
  mul_nonneg (Finset.sum_nonneg fun _ _ => Finset.sum_nonneg fun _ _ => mul_self_nonneg _) (by norm_num)

/-- A channel is the one of its group at its place. -/
theorem grp_grpOf (ch : Fin 1280) : grp (grpOf ch) ⟨ch.val % 40, Nat.mod_lt _ (by decide)⟩ = ch :=
  Fin.ext (by show 40 * (ch.val / 40) + ch.val % 40 = ch.val; omega)

/-! ## The bound -/

/-- A normalised element is at most 256 in magnitude. -/
theorem xhat_le (r : Fin 1024) (ch : Fin 1280) : |(X r ch - mean X (grpOf ch)) * (√(var X (grpOf ch) + eps))⁻¹| ≤ 256 := by
  have hv := var_nonneg X (grpOf ch)
  have he := eps_pos
  have hs : 0 < √(var X (grpOf ch) + eps) := Real.sqrt_pos.mpr (by linarith)
  have hsq : (X r ch - mean X (grpOf ch)) * (X r ch - mean X (grpOf ch)) ≤ 40960 * var X (grpOf ch) := by
    have h1 : (X r ch - mean X (grpOf ch)) * (X r ch - mean X (grpOf ch))
        ≤ ∑ k : Fin 40, (X r (grp (grpOf ch) k) - mean X (grpOf ch)) * (X r (grp (grpOf ch) k) - mean X (grpOf ch)) := by
      have := Finset.single_le_sum (f := fun k : Fin 40 => (X r (grp (grpOf ch) k) - mean X (grpOf ch)) * (X r (grp (grpOf ch) k) - mean X (grpOf ch)))
        (fun _ _ => mul_self_nonneg _) (Finset.mem_univ (⟨ch.val % 40, Nat.mod_lt _ (by decide)⟩ : Fin 40))
      simpa only [grp_grpOf] using this
    have h2 := Finset.single_le_sum (f := fun r : Fin 1024 => ∑ k : Fin 40, (X r (grp (grpOf ch) k) - mean X (grpOf ch)) * (X r (grp (grpOf ch) k) - mean X (grpOf ch)))
        (fun _ _ => Finset.sum_nonneg fun _ _ => mul_self_nonneg _) (Finset.mem_univ r)
    have h3 : 40960 * var X (grpOf ch) = ∑ r : Fin 1024, ∑ k : Fin 40, (X r (grp (grpOf ch) k) - mean X (grpOf ch)) * (X r (grp (grpOf ch) k) - mean X (grpOf ch)) := by
      unfold var; ring
    rw [h3]
    exact h1.trans h2
  have hss : √(var X (grpOf ch) + eps) * √(var X (grpOf ch) + eps) = var X (grpOf ch) + eps := Real.mul_self_sqrt (by linarith)
  rw [abs_mul, abs_inv, abs_of_pos hs, ← div_eq_mul_inv, div_le_iff₀ hs]
  refine abs_le_of_sq_le_sq ?_ (by positivity)
  nlinarith

/-- The activation does not increase a magnitude. -/
theorem silu_le (v : ℝ) : |silu v| ≤ |v| := by
  unfold silu
  have := Real.exp_pos (-v)
  rw [abs_mul, abs_of_pos (by positivity : 0 < 1 / (1 + Real.exp (-v)))]
  refine mul_le_of_le_one_right (abs_nonneg _) ?_
  rw [div_le_one (by linarith)]
  linarith

variable {X G B}

/-- An activation is at most 2^109 in magnitude. -/
theorem yv_le (hG : ∀ ch, |G ch| ≤ 2 ^ 100) (hB : ∀ ch, |B ch| ≤ 2 ^ 100) (r : Fin 1024) (ch : Fin 1280) : |yv X G B r ch| ≤ 2 ^ 109 := by
  refine (silu_le _).trans ?_
  unfold nrm
  refine (abs_add_le _ _).trans ?_
  rw [abs_mul]
  have h1 := mul_le_mul (xhat_le X r ch) (hG ch) (abs_nonneg _) (by norm_num)
  have h2 := hB ch
  norm_num at h1 h2 ⊢
  linarith

/-- A block's greatest magnitude is not negative. -/
theorem amx_nonneg (r : Fin 1024) (b : Fin 40) : 0 ≤ amx X G B r b :=
  (abs_nonneg _).trans (Finset.le_sup' (fun k => |yv X G B r (blk b k)|) (Finset.mem_univ 0))

/-- A block's greatest magnitude over 448 is below 2^110. -/
theorem amx_lt (hG : ∀ ch, |G ch| ≤ 2 ^ 100) (hB : ∀ ch, |B ch| ≤ 2 ^ 100) (r : Fin 1024) (b : Fin 40) :
    amx X G B r b * (1 / 448) < 2 ^ (110 : ℤ) := by
  have h : amx X G B r b ≤ 2 ^ 109 := Finset.sup'_le _ _ fun k _ => yv_le hG hB r _
  have h' : (2 : ℝ) ^ (110 : ℤ) = 2 * 2 ^ 109 := by norm_num
  have : 0 ≤ amx X G B r b := amx_nonneg r b
  rw [h']
  have h0 : (0 : ℝ) < 2 ^ 109 := by positivity
  generalize (2 : ℝ) ^ 109 = T at h h0 ⊢
  linarith

/-- A block's exponent lies between -126 and 110. -/
theorem ex_bounds (hG : ∀ ch, |G ch| ≤ 2 ^ 100) (hB : ∀ ch, |B ch| ≤ 2 ^ 100) (r : Fin 1024) (b : Fin 40) :
    -126 ≤ ex X G B r b ∧ ex X G B r b ≤ 110 :=
  expo_bounds (mul_nonneg (amx_nonneg r b) (by norm_num)) (amx_lt hG hB r b)

/-! ## Reals among the extended reals -/

/-- A sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals among the extended reals. -/
theorem coe_max (a b : ℝ) : ((max a b : ℝ) : EReal) = max (a : EReal) b := EReal.coe_strictMono.monotone.map_max
/-- The lesser of two reals among the extended reals. -/
theorem coe_min (a b : ℝ) : ((min a b : ℝ) : EReal) = min (a : EReal) b := EReal.coe_strictMono.monotone.map_min

/-- A magnitude among the extended reals. -/
theorem coe_abs (a : ℝ) : ((|a| : ℝ) : EReal) = max (a : EReal) (-(a : EReal)) := by
  rw [← EReal.coe_neg, ← coe_max]
  rfl

/-- The greatest of 32 reals among the extended reals. -/
theorem coe_sup (f : Fin 32 → ℝ) : (((Finset.univ : Finset (Fin 32)).sup' ⟨0, Finset.mem_univ _⟩ f : ℝ) : EReal)
    = (Finset.univ : Finset (Fin 32)).sup fun k => (f k : EReal) := by
  refine le_antisymm ?_ (Finset.sup_le fun k _ => EReal.coe_le_coe_iff.mpr (Finset.le_sup' f (Finset.mem_univ k)))
  obtain ⟨k, -, hk⟩ := Finset.exists_mem_eq_sup' (s := (Finset.univ : Finset (Fin 32))) ⟨0, Finset.mem_univ _⟩ f
  rw [hk]
  exact Finset.le_sup (f := fun k => (f k : EReal)) (Finset.mem_univ k)

end Cert.Gn

end
-- ==== Proof.KernelSpec.lean ====
/- The kernel body's codes and exponents, on real operands, are the ones of the plain mathematics. -/
module

public import proofs.«01_k».proof.Proof.KernelValue3
public import proofs.«01_k».proof.Proof.Spec

@[expose] public section

noncomputable section

namespace Cert.Gn

open Idealize.ShloMosaic Idealize.SL.Sem

variable {K : Consts Ideal}
variable {x : Vec Ideal S1x1024x1280 .bf16} {ind : Vec Ideal S32x1280 .f32} {gam bet : Vec Ideal S1280x128 .f32}
variable {X : Fin 1024 → Fin 1280 → ℝ} {G B : Fin 1280 → ℝ}

/-- The kernel's constants have their exact values. -/
structure ConstsExact (K : Consts Ideal) : Prop where
  negLog2e : K.negLog2e = ((-((Real.log 2)⁻¹) : ℝ) : EReal)
  ln2Over448 : K.ln2Over448 = ((Real.log 2 * (1 / 448) : ℝ) : EReal)
  negLn2 : K.negLn2 = ((-(Real.log 2) : ℝ) : EReal)
  invN : K.invN = ((1 / 40960 : ℝ) : EReal)

/-- The operands are real, and the indicator is the groups'. -/
structure Operands (x : Vec Ideal S1x1024x1280 .bf16) (ind : Vec Ideal S32x1280 .f32) (gam bet : Vec Ideal S1280x128 .f32)
    (X : Fin 1024 → Fin 1280 → ℝ) (G B : Fin 1280 → ℝ) : Prop where
  x : ∀ r ch, x (ix3 0 r ch) = ((X r ch : ℝ) : EReal)
  ind : ∀ g ch, ind (ix2 g ch) = (((if grpOf ch = g then (1 : ℝ) else 0) : ℝ) : EReal)
  gam : ∀ ch l, gam (ix2 ch l) = ((G ch : ℝ) : EReal)
  bet : ∀ ch l, bet (ix2 ch l) = ((B ch : ℝ) : EReal)

variable (hK : ConstsExact K) (h : Operands x ind gam bet X G B)

include hK h

/-- The kernel's mean is the group's mean. -/
theorem meanK_eq (g : Fin 32) : meanK K x ind g = ((mean X g : ℝ) : EReal) := by
  unfold meanK mean
  simp only [h.x, h.ind, hK.invN, ← EReal.coe_add, ← coe_sum, ← EReal.coe_mul]
  rw [sum_group]

/-- The kernel's reciprocal standard deviation is the group's, offset included. -/
theorem rstdK_eq (g : Fin 32) : rstdK K x ind g = (((√(var X g + eps))⁻¹ : ℝ) : EReal) := by
  unfold rstdK
  rw [meanK_eq hK h]
  simp only [h.x, h.ind, hK.invN, ← EReal.coe_add, ← coe_sum, ← EReal.coe_mul, ← EReal.coe_sub]
  rw [sum_group (fun r ch => X r ch * X r ch), var_eq, ← EReal.coe_zero, ← coe_max, max_eq_left (var_nonneg X g), ← EReal.coe_add, Ideal.rsqrt_coe]
  have := var_nonneg X g
  have := eps_pos
  rw [if_neg (by linarith), if_neg (by linarith)]

/-- On v times -log2(e), the kernel's activation is SiLU of v times -log2(e). -/
theorem silu2_coe (v : ℝ) : silu2 ((-((Real.log 2)⁻¹) * v : ℝ) : EReal) = ((-((Real.log 2)⁻¹) * silu v : ℝ) : EReal) := by
  have hl : 0 < Real.log 2 := Real.log_pos (by norm_num)
  have he : (2 : ℝ) ^ (-((Real.log 2)⁻¹) * v) = Real.exp (-v) := by
    rw [Real.rpow_def_of_pos (by norm_num)]
    congr 1
    field_simp
  unfold silu2 silu
  have hp := Real.exp_pos (-v)
  rw [Ideal.exp2_coe, show Real.rpow 2 (-((Real.log 2)⁻¹) * v) = Real.exp (-v) from he, ← EReal.coe_add, Ideal.div_coe (by linarith), ← EReal.coe_mul, ← EReal.coe_mul]
  congr 1
  ring

/-- The kernel's activation is the activation times -log2(e). -/
theorem actK_eq (r : Fin 1024) (ch : Fin 1280) : actK K x ind gam bet r ch = ((-((Real.log 2)⁻¹) * yv X G B r ch : ℝ) : EReal) := by
  unfold actK shiftK scaleK
  have hg : (⟨ch.val / 40, by omega⟩ : Fin 32) = grpOf ch := rfl
  rw [hg, meanK_eq hK h, rstdK_eq hK h, h.x, h.gam, h.bet, hK.negLog2e]
  simp only [← EReal.coe_mul, ← EReal.coe_sub, ← EReal.coe_add]
  unfold yv
  rw [← silu2_coe hK h]
  refine congrArg (fun z : ℝ => silu2 (z : EReal)) ?_
  unfold nrm
  ring

/-- The kernel's greatest magnitude times ln(2)/448 is the greatest magnitude over 448. -/
theorem amaxK_eq (r : Fin 1024) (b : Fin 40) : amaxK K x ind gam bet r b * K.ln2Over448 = ((amx X G B r b * (1 / 448) : ℝ) : EReal) := by
  have hl : 0 < Real.log 2 := Real.log_pos (by norm_num)
  have e : amaxK K x ind gam bet r b = (((Real.log 2)⁻¹ * amx X G B r b : ℝ) : EReal) := by
    unfold amaxK amx
    simp only [actK_eq hK h, ← coe_abs]
    rw [← coe_sup (fun k => |-((Real.log 2)⁻¹) * yv X G B r ⟨32 * b.val + k.val, by omega⟩|)]
    congr 1
    have hm : Monotone fun t : ℝ => (Real.log 2)⁻¹ * t := fun a c hac => mul_le_mul_of_nonneg_left hac (by positivity)
    refine Eq.symm ((Finset.comp_sup'_eq_sup'_comp _ (fun t : ℝ => (Real.log 2)⁻¹ * t) fun a c => hm.map_sup a c).trans ?_)
    refine Finset.sup'_congr _ rfl fun k _ => ?_
    show (Real.log 2)⁻¹ * |yv X G B r (blk b k)| = _
    rw [abs_mul, abs_neg, abs_of_pos (by positivity : 0 < (Real.log 2)⁻¹)]
    rfl
  rw [e, hK.ln2Over448, ← EReal.coe_mul]
  congr 1
  field_simp

variable (hG : ∀ ch, |G ch| ≤ 2 ^ 100) (hB : ∀ ch, |B ch| ≤ 2 ^ 100)
include hG hB

/-- The kernel's exponent field is the exponent plus 126. -/
theorem fieldK_eq (r : Fin 1024) (b : Fin 40) : fieldK K x ind gam bet r b = BitVec.ofNat 32 (ex X G B r b + 126).toNat := by
  unfold fieldK
  rw [amaxK_eq hK h, field_eq (mul_nonneg (amx_nonneg r b) (by norm_num)) (amx_lt hG hB r b)]
  rfl

/-- A scale before its narrowing. -/
theorem scaleK_eq (r : Fin 1024) (b : Fin 40) : fieldK K x ind gam bet r b + 1#32 = BitVec.ofInt 32 (ex X G B r b) + 127#32 := by
  obtain ⟨h0, h1⟩ := ex_bounds hG hB r b
  rw [fieldK_eq hK h hG hB, field_succ h0 h1]

/-- A code. -/
theorem codeK_eq (r : Fin 1024) (ch : Fin 1280) : codeK K x ind gam bet r ch = ((code X G B r ch : ℝ) : EReal) := by
  obtain ⟨h0, h1⟩ := ex_bounds hG hB r (blkOf ch)
  have hl : 0 < Real.log 2 := Real.log_pos (by norm_num)
  unfold codeK
  have hb : (⟨ch.val / 32, by omega⟩ : Fin 40) = blkOf ch := rfl
  rw [hb, fieldK_eq hK h hG hB, pow2f_inv h0 h1, actK_eq hK h, hK.negLn2, ← EReal.coe_mul, ← EReal.coe_mul, ← coe_max, ← coe_min]
  unfold code
  congr 3
  field_simp

end Cert.Gn

end
-- ==== Proof.KernelRun.lean ====
/- What the kernel program leaves in its results, at an index, from its arguments. -/
module

public import proofs.«01_k».proof.Proof.KernelIdealFrame
public import proofs.«01_k».proof.Proof.KernelSpec
public import Idealize.ShloMosaic.Lib.Pipeline.ValueKit
public import Idealize.ShloMosaic.Lib.StableHlo.ReadAt
public import Idealize.ShloMosaic.Lib.Decide

@[expose] public section

set_option maxRecDepth 16384

noncomputable section

namespace Cert.KernelIdeal.Gn

open Cert.KernelIdeal Cert.KernelIdeal.Gen Cert.Gn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the region reads -/

/-- The program's floor division by 40, on the channels. -/
theorem div40 : ∀ ch : Fin 1280, (Scalar.select
          (IntOp.andi
            (IntOp.cmpi CmpIPredicate.ne
              (if BitVec.ofNat 32 ch.val = 0 then 0 else if (BitVec.ofNat 32 ch.val).msb = true then -1 else 1)
              (if 40#32 = 0 then 0 else if BitVec.msb 40#32 = true then -1 else 1 : BitVec 32))
            (IntOp.cmpi CmpIPredicate.ne (IntOp.remsi ArithUnit.host (BitVec.ofNat 32 ch.val) 40#32) 0#32))
          (IntOp.subi (IntOp.divsi ArithUnit.host (BitVec.ofNat 32 ch.val) 40#32) 1#32)
          (IntOp.divsi ArithUnit.host (BitVec.ofNat 32 ch.val) 40#32) : BitVec 32) = BitVec.ofNat 32 (grpOf ch).val := by
  decide +kernel

/-- The indicator's array: 1 where the channel is in the group, 0 elsewhere. -/
theorem V_ind (c : Dev nD) (g : Fin 32) (ch : Fin 1280) :
    (V m c main_v8 : Vec Ideal S32x1280 .f32) (ix2 g ch) = (((if grpOf ch = g then (1 : ℝ) else 0) : ℝ) : EReal) := by
  unfold V
  after_reads_at
  refine (congrArg (fun q => FloatOps.uitofp (F := Ideal) FTy.f32 (IntOp.cmpi CmpIPredicate.eq q (BitVec.ofNat 32 g.val))) (div40 ch)).trans ?_
  show (((BitVec.ofBool (BitVec.ofNat 32 (grpOf ch).val == BitVec.ofNat 32 g.val)).toNat : ℝ) : EReal) = _
  by_cases h : grpOf ch = g
  · rw [h]; simp
  · have h' : BitVec.ofNat 32 (grpOf ch).val ≠ BitVec.ofNat 32 g.val := fun e => h (Fin.ext (by
      have e := congrArg BitVec.toNat e
      simp only [BitVec.toNat_ofNat] at e
      omega))
    rw [beq_false_of_ne h', if_neg h]
    simp

/-- Gamma's array: each channel's gamma on every lane. -/
theorem V_gam (c : Dev nD) (ch : Fin 1280) (l : Fin 128) :
    (V m c main_v10 : Vec Ideal S1280x128 .f32) (ix2 ch l) = (m ((c : Thread nD τ).loc main_arg1) : Vec Ideal S1280 .f32) (ix1 ch) := by
  unfold V
  after_reads_at

/-- Beta's array: each channel's beta on every lane. -/
theorem V_bet (c : Dev nD) (ch : Fin 1280) (l : Fin 128) :
    (V m c main_v12 : Vec Ideal S1280x128 .f32) (ix2 ch l) = (m ((c : Thread nD τ).loc main_arg2) : Vec Ideal S1280 .f32) (ix1 ch) := by
  unfold V
  after_reads_at

/-! ## The blocks -/

/-- The samples' window is at the point's sample. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The indicator's window does not move. -/
theorem idx1 : ∀ t : Fin cfg0.N, win0_1.index t (0 : Fin 2) = 0 ∧ win0_1.index t (1 : Fin 2) = 0 :=
  (by decide +kernel : ∀ t : Fin grid0.N, _)
/-- Gamma's window does not move. -/
theorem idx2 : ∀ t : Fin cfg0.N, win0_2.index t (0 : Fin 2) = 0 ∧ win0_2.index t (1 : Fin 2) = 0 :=
  (by decide +kernel : ∀ t : Fin grid0.N, _)
/-- Beta's window does not move. -/
theorem idx3 : ∀ t : Fin cfg0.N, win0_3.index t (0 : Fin 2) = 0 ∧ win0_3.index t (1 : Fin 2) = 0 :=
  (by decide +kernel : ∀ t : Fin grid0.N, _)
/-- The codes' window is at the point's sample. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
/-- The scales' window is at the point's sample. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- A sample's grid point. -/
def pt (s : Fin 16) : Fin cfg0.N := s.cast N_0.symm

/-- The samples' block at a sample's point is that sample. -/
theorem iblk0 (c : Dev nD) (s : Fin 16) (r : Fin 1024) (ch : Fin 1280) :
    (iblk m c 0 (pt s) : Vec Ideal S1x1024x1280 .bf16) (ix3 0 r ch) = (m ((c : Thread nD τ).loc main_arg0) : Vec Ideal S16x1024x1280 .bf16) (ix3 s r ch) := by
  obtain ⟨e0, e1, e2⟩ := idx0 (pt s)
  rw [← V_main_arg0 m c]
  show V m c main_arg0 (((cfg0.win 0).blk (pt s)).view.emb (ix3 0 r ch)) = V m c main_arg0 _
  refine congrArg _ (funext fun a => Fin.ext ?_)
  have e : (pt s).val = s.val := rfl
  match a with
  | ⟨0, _⟩ => show win0_0.index (pt s) (0 : Fin 3) * 1 + 1 * 0 = s.val; omega
  | ⟨1, _⟩ => show win0_0.index (pt s) (1 : Fin 3) * 1024 + 1 * r.val = r.val; omega
  | ⟨2, _⟩ => show win0_0.index (pt s) (2 : Fin 3) * 1280 + 1 * ch.val = ch.val; omega

/-- The indicator's block is its array. -/
theorem iblk1 (c : Dev nD) (t : Fin cfg0.N) (g : Fin 32) (ch : Fin 1280) :
    (iblk m c 1 t : Vec Ideal S32x1280 .f32) (ix2 g ch) = (V m c main_v8 : Vec Ideal S32x1280 .f32) (ix2 g ch) := by
  obtain ⟨e0, e1⟩ := idx1 t
  show V m c main_v8 (((cfg0.win 1).blk t).view.emb (ix2 g ch)) = V m c main_v8 _
  refine congrArg _ (funext fun a => Fin.ext ?_)
  match a with
  | ⟨0, _⟩ => show win0_1.index t (0 : Fin 2) * 32 + 1 * g.val = g.val; omega
  | ⟨1, _⟩ => show win0_1.index t (1 : Fin 2) * 1280 + 1 * ch.val = ch.val; omega

/-- Gamma's block is its array. -/
theorem iblk2 (c : Dev nD) (t : Fin cfg0.N) (ch : Fin 1280) (l : Fin 128) :
    (iblk m c 2 t : Vec Ideal S1280x128 .f32) (ix2 ch l) = (V m c main_v10 : Vec Ideal S1280x128 .f32) (ix2 ch l) := by
  obtain ⟨e0, e1⟩ := idx2 t
  show V m c main_v10 (((cfg0.win 2).blk t).view.emb (ix2 ch l)) = V m c main_v10 _
  refine congrArg _ (funext fun a => Fin.ext ?_)
  match a with
  | ⟨0, _⟩ => show win0_2.index t (0 : Fin 2) * 1280 + 1 * ch.val = ch.val; omega
  | ⟨1, _⟩ => show win0_2.index t (1 : Fin 2) * 128 + 1 * l.val = l.val; omega

/-- Beta's block is its array. -/
theorem iblk3 (c : Dev nD) (t : Fin cfg0.N) (ch : Fin 1280) (l : Fin 128) :
    (iblk m c 3 t : Vec Ideal S1280x128 .f32) (ix2 ch l) = (V m c main_v12 : Vec Ideal S1280x128 .f32) (ix2 ch l) := by
  obtain ⟨e0, e1⟩ := idx3 t
  show V m c main_v12 (((cfg0.win 3).blk t).view.emb (ix2 ch l)) = V m c main_v12 _
  refine congrArg _ (funext fun a => Fin.ext ?_)
  match a with
  | ⟨0, _⟩ => show win0_3.index t (0 : Fin 2) * 1280 + 1 * ch.val = ch.val; omega
  | ⟨1, _⟩ => show win0_3.index t (1 : Fin 2) * 128 + 1 * l.val = l.val; omega

/-- The blocks of codes of different points share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h := congrFun h (0 : Fin 3)
    rwa [show (cfg0.win 4).index t (0 : Fin 3) = t.val from (idx4 t).1, show (cfg0.win 4).index t' (0 : Fin 3) = t'.val from (idx4 t').1] at h))

/-- The blocks of scales of different points share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have h := congrFun h (0 : Fin 3)
    rwa [show (cfg0.win 5).index t (0 : Fin 3) = t.val from (idx5 t).1, show (cfg0.win 5).index t' (0 : Fin 3) = t'.val from (idx5 t').1] at h))

/-- The codes' array at an index: the sample's block. -/
theorem arr4 (c : Dev nD) (s : Fin 16) (r : Fin 1024) (ch : Fin 1280) :
    ((dats m 0 c).arrAt 4 cfg0.N : Vec Ideal S16x1024x1280 .fp8e4m3) (ix3 s r ch) = codesAt m c (pt s) (ix3 0 r ch) := by
  obtain ⟨e0, e1, e2⟩ := idx4 (pt s)
  have h := (dats m 0 c).arrAt_emb_eq_flushed 4 disjoint4 (pt s) (flush0_4 _) (ix3 0 r ch)
  have e : ((cfg0.win 4).blk (pt s)).view.emb (ix3 0 r ch) = (ix3 s r ch : S16x1024x1280.Idx) := by
    have e : (pt s).val = s.val := rfl
    refine funext fun a => Fin.ext ?_
    match a with
    | ⟨0, _⟩ => show win0_4.index (pt s) (0 : Fin 3) * 1 + 1 * 0 = s.val; omega
    | ⟨1, _⟩ => show win0_4.index (pt s) (1 : Fin 3) * 1024 + 1 * r.val = r.val; omega
    | ⟨2, _⟩ => show win0_4.index (pt s) (2 : Fin 3) * 1280 + 1 * ch.val = ch.val; omega
  rw [← e]
  refine h.trans ?_
  show (dats m 0 c).after 4 (pt s) (ix3 0 r ch) = _
  rw [after0_4]

/-- The scales' array at an index: the sample's block. -/
theorem arr5 (c : Dev nD) (s : Fin 16) (b : Fin 40) (r : Fin 1024) :
    ((dats m 0 c).arrAt 5 cfg0.N : Vec Ideal S16x40x1024 .i32) (ix3 s b r) = scaleAt m c (pt s) (ix3 0 b r) := by
  obtain ⟨e0, e1, e2⟩ := idx5 (pt s)
  have h := (dats m 0 c).arrAt_emb_eq_flushed 5 disjoint5 (pt s) (flush0_5 _) (ix3 0 b r)
  have e : ((cfg0.win 5).blk (pt s)).view.emb (ix3 0 b r) = (ix3 s b r : S16x40x1024.Idx) := by
    have e : (pt s).val = s.val := rfl
    refine funext fun a => Fin.ext ?_
    match a with
    | ⟨0, _⟩ => show win0_5.index (pt s) (0 : Fin 3) * 1 + 1 * 0 = s.val; omega
    | ⟨1, _⟩ => show win0_5.index (pt s) (1 : Fin 3) * 40 + 1 * b.val = b.val; omega
    | ⟨2, _⟩ => show win0_5.index (pt s) (2 : Fin 3) * 1024 + 1 * r.val = r.val; omega
  rw [← e]
  refine h.trans ?_
  show (dats m 0 c).after 5 (pt s) (ix3 0 b r) = _
  rw [after0_5]

/-- The scales as the program returns them. -/
theorem tail15 (c : Dev nD) (s : Fin 16) (r : Fin 1024) (b : Fin 40) :
    (Pipeline.afterTail₀ cfgs (dats m) 0 (V0 m) [hostOps1] c main_v15 : Vec Ideal S16x1024x40 .i8) (ix3 s r b)
      = (scaleAt m c (pt s) (ix3 0 b r)).truncate 8 := by
  rw [← arr5]
  have e := Pipeline.withArrays_arr spec0 launch0.win.arr_inj c (V0 m c) (fun w => (dats m 0 c).arrAt w (cfgs 0).N) 5
  unfold Pipeline.afterTail₀
  generalize Pipeline.withArrays (cfgs 0).spec c (V0 m c) (fun w => (dats m 0 c).arrAt w (cfgs 0).N) = W at e ⊢
  after_reads_at
  exact congrArg (BitVec.setWidth 8) (congrFun e (ix3 s b r))

/-! ## The constants -/

/-- The idealization's constants have their exact values. -/
theorem exact : ConstsExact (consts : Consts Ideal) where
  negLog2e := rfl
  ln2Over448 := rfl
  negLn2 := rfl
  invN := rfl

end Cert.KernelIdeal.Gn

end
-- ==== Proof.RefValue.lean ====
/- What the reference program computes, as vector functions of its arguments. -/
module

public import proofs.«01_k».proof.Proof.Spec
public import proofs.«01_k».proof.Proof.Gen.ReferenceIdeal.Value
public import Idealize.ShloMosaic.Lib.StableHlo.ReadAt
public import Idealize.ShloMosaic.Lib.Pointwise

@[expose] public section

set_option maxRecDepth 16384

noncomputable section

namespace Cert.ReferenceIdeal.Rn

open Cert.ReferenceIdeal Cert.ReferenceIdeal.Gen
open Idealize.ShloMosaic Idealize.ShloMosaic.TcCoe Idealize.SL.Sem
open Idealize.ShloMosaic.Pipeline (Dat)

/-! ## The program's stages -/

/-- The groups' means. -/
def rmean (v : FVec Ideal S16x1024x32x40 .f32) : FVec Ideal S16x1x32x1 .f32 :=
  Host.divf (broadcastInDim S16x1x32x1 ![0, 2] bcast_S16x32_S16x1x32x1_0_2
    (Host.reduceAdd v (constant S_ .f32 0x00000000#32) reducesTo_S16x1024x32x40_S16x32_d1_3 h_S_))
    (broadcastInDim S16x1x32x1 ![] bcast_S_S16x1x32x1 (constant S_ .f32 0x47200000#32))
/-- The elements less their groups' means. -/
def rcent (v : FVec Ideal S16x1024x32x40 .f32) : FVec Ideal S16x1024x32x40 .f32 :=
  subf v (broadcastInDim S16x1024x32x40 ![0, 1, 2, 3] bcast_S16x1x32x1_S16x1024x32x40_0_1_2_3 (rmean v))
/-- The reciprocal standard deviations, from the centred elements. -/
def rrstd (d : FVec Ideal S16x1024x32x40 .f32) : FVec Ideal S16x1x32x1 .f32 :=
  Host.rsqrt (addf (rmean (mulf d d)) (broadcastInDim S16x1x32x1 ![] bcast_S_S16x1x32x1 (constant S_ .f32 0x3727C5AC#32)))
/-- The normalised elements, from the centred ones. -/
def rxhat (d : FVec Ideal S16x1024x32x40 .f32) : FVec Ideal S16x1024x32x40 .f32 :=
  mulf d (broadcastInDim S16x1024x32x40 ![0, 1, 2, 3] bcast_S16x1x32x1_S16x1024x32x40_0_1_2_3 (rrstd d))
/-- A row of channels, along the samples and rows. -/
def rrow (g : FVec Ideal S1280 .f32) : FVec Ideal S16x1024x1280 .f32 :=
  broadcastInDim S16x1024x1280 ![0, 1, 2] bcast_S1x1x1280_S16x1024x1280_0_1_2 (broadcastInDim S1x1x1280 ![2] bcast_S1280_S1x1x1280_2 g)
/-- Scaled and shifted. -/
def rnorm (n : FVec Ideal S16x1024x32x40 .f32) (g b : FVec Ideal S1280 .f32) : FVec Ideal S16x1024x1280 .f32 :=
  addf (mulf (shapeCast S16x1024x1280 n shapeCasts_S16x1024x32x40_S16x1024x1280) (rrow g)) (rrow b)
/-- The activation. -/
def rsilu (w : FVec Ideal S16x1024x1280 .f32) : FVec Ideal S16x1024x1280 .f32 :=
  mulf w (Host.divf (broadcastInDim S16x1024x1280 ![] bcast_S_S16x1024x1280 (constant S_ .f32 0x3F800000#32))
    (addf (broadcastInDim S16x1024x1280 ![] bcast_S_S16x1024x1280 (constant S_ .f32 0x3F800000#32)) (Host.exp (Host.negf w))))
/-- The activations in blocks, from the arguments. -/
def rblocks (x : FVec Ideal S16x1024x1280 .bf16) (g b : FVec Ideal S1280 .f32) : FVec Ideal S16x1024x40x32 .f32 :=
  shapeCast S16x1024x40x32 (rsilu (rnorm (rxhat (rcent (shapeCast S16x1024x32x40 (extf .f32 x bitsLt_bf16_f32) shapeCasts_S16x1024x1280_S16x1024x32x40))) g b))
    shapeCasts_S16x1024x1280_S16x1024x40x32
/-- The blocks' greatest magnitudes. -/
def rmax (q : FVec Ideal S16x1024x40x32 .f32) : FVec Ideal S16x1024x40x1 .f32 :=
  broadcastInDim S16x1024x40x1 ![0, 1, 2] bcast_S16x1024x40_S16x1024x40x1_0_1_2
    (Host.reduce FloatOps.maximumf (Host.absf q) (constant S_ .f32 0xFF800000#32) reducesTo_S16x1024x40x32_S16x1024x40_d3 h_S_)
/-- The blocks' exponents. -/
def rexpo (a : FVec Ideal S16x1024x40x1 .f32) : IVec S16x1024x40x1 32 :=
  select (cmpf .oeq a (broadcastInDim S16x1024x40x1 ![] bcast_S_S16x1024x40x1 (constant S_ .f32 0x00000000#32)))
    (broadcastInDim S16x1024x40x1 ![] bcast_S_S16x1024x40x1 (constantI S_ 32 0#32))
    (fptosi 32 (maximumf (addf (Host.floor (Host.divf (Host.log (Host.divf a (broadcastInDim S16x1024x40x1 ![] bcast_S_S16x1024x40x1 (constant S_ .f32 0x43E00000#32))))
      (broadcastInDim S16x1024x40x1 ![] bcast_S_S16x1024x40x1 (Host.log (constant S_ .f32 0x40000000#32)))))
      (broadcastInDim S16x1024x40x1 ![] bcast_S_S16x1024x40x1 (constant S_ .f32 0x3F800000#32)))
      (broadcastInDim S16x1024x40x1 ![] bcast_S_S16x1024x40x1 (constant S_ .f32 0xC2FC0000#32))))
/-- The codes before their narrowing. -/
def rcodes (q : FVec Ideal S16x1024x40x32 .f32) (e : IVec S16x1024x40x1 32) : FVec Ideal S16x1024x1280 .f32 :=
  shapeCast S16x1024x1280 (minimumf (broadcastInDim S16x1024x40x32 ![] bcast_S_S16x1024x40x32 (constant S_ .f32 0x43E00000#32))
    (maximumf (broadcastInDim S16x1024x40x32 ![] bcast_S_S16x1024x40x32 (constant S_ .f32 0xC3E00000#32))
      (mulf q (broadcastInDim S16x1024x40x32 ![0, 1, 2, 3] bcast_S16x1024x40x1_S16x1024x40x32_0_1_2_3
        (Host.powf (broadcastInDim S16x1024x40x1 ![] bcast_S_S16x1024x40x1 (constant S_ .f32 0x40000000#32)) (Host.negf (sitofp .f32 e)))))))
    shapeCasts_S16x1024x40x32_S16x1024x1280
/-- The scales. -/
def rscale (e : IVec S16x1024x40x1 32) : IVec S16x1024x40 8 :=
  trunci 8 (addi (shapeCast S16x1024x40 e shapeCasts_S16x1024x40x1_S16x1024x40) (broadcastInDim S16x1024x40 ![] bcast_S_S16x1024x40 (constantI S_ 32 127#32))) natLt_8_32

variable (m : (ℓ : Loc nD τ sig) → Buf (Elt Ideal) ℓ)

/-- The activations in blocks, from a device's memory. -/
def mblocks (c : Dev nD) : FVec Ideal S16x1024x40x32 .f32 :=
  rblocks (m ((c : Thread nD τ).loc main_arg0)) (m ((c : Thread nD τ).loc main_arg1)) (m ((c : Thread nD τ).loc main_arg2))

set_option maxRecDepth 100000 in
/-- The codes before their narrowing, as the region finds them, by stages. -/
theorem V_codes (c : Dev nD) : (V m c main_v59 : FVec Ideal S16x1024x1280 .f32) = rcodes (mblocks m c) (rexpo (rmax (mblocks m c))) := by
  unfold V
  after_reads_simp
  simp -implicitDefEqProofs only [StableHlo.TRef.toBuf, StableHlo.TRef.ofBuf, cast_cast, cast_eq]
  clean_types
  unfold rcodes rexpo rmax mblocks rblocks rsilu rnorm rxhat rrow rrstd rcent rmean
  rfl

set_option maxRecDepth 100000 in
/-- The scales by stages. -/
theorem V_scale (c : Dev nD) : (V m c main_v63 : IVec S16x1024x40 8) = rscale (rexpo (rmax (mblocks m c))) := by
  unfold V
  after_reads_simp
  simp -implicitDefEqProofs only [StableHlo.TRef.toBuf, StableHlo.TRef.ofBuf, cast_cast, cast_eq]
  clean_types
  unfold rscale rexpo rmax mblocks rblocks rsilu rnorm rxhat rrow rrstd rcent rmean
  rfl

end Cert.ReferenceIdeal.Rn

end
-- ==== Proof.RefSpec.lean ====
/- The reference's stages at an index, and the plain mathematics they are. -/
module

public import proofs.«01_k».proof.Proof.RefValue

@[expose] public section

set_option maxRecDepth 16384

noncomputable section

namespace Cert.ReferenceIdeal.Rn

open Cert.ReferenceIdeal Cert.ReferenceIdeal.Gen Cert.Gn
open Idealize.ShloMosaic Idealize.ShloMosaic.TcCoe Idealize.SL.Sem

/-- The elements by group, at an index. -/
theorem groups_apply (x : FVec Ideal S16x1024x1280 .bf16) (s : Fin 16) (r : Fin 1024) (g : Fin 32) (k : Fin 40) :
    shapeCast S16x1024x32x40 (extf .f32 x bitsLt_bf16_f32) shapeCasts_S16x1024x1280_S16x1024x32x40 (ix4 s r g k) = x (ix3 s r (grp g k)) := by
  unfold grp
  pointwise
  exact congrArg (fun q => x (ix3 s r q)) (Fin.ext (by show g.val * 40 + k.val = 40 * g.val + k.val; omega))

/-- A group's sum over rows and channels. -/
theorem sum_apply (v : FVec Ideal S16x1024x32x40 .f32) (s : Fin 16) (g : Fin 32) :
    Host.reduceAdd v (constant S_ .f32 0x00000000#32) reducesTo_S16x1024x32x40_S16x32_d1_3 h_S_ (ix2 s g)
      = (∑ r : Fin 1024, ∑ k : Fin 40, v (ix4 s r g k) : EReal) := by
  show Ideal.ofBits .f32 0x00000000#32 + ∑ i ∈ Finset.univ.filter (fun i => reducesTo_S16x1024x32x40_S16x32_d1_3.drop i = ix2 s g), v i = _
  rw [Ideal.ofBits_zero_f32, zero_add, ← Fintype.sum_prod_type' (f := fun (r : Fin 1024) (k : Fin 40) => (v (ix4 s r g k) : EReal))]
  refine Finset.sum_filter_eq_sum_of_fiber _ (fun p : Fin 1024 × Fin 40 => (ix4 s p.1 g p.2 : S16x1024x32x40.Idx)) ?_ ?_ v
  · intro p q e
    exact Prod.ext (congrFun e (1 : Fin 4)) (congrFun e (3 : Fin 4))
  · intro i
    have h0 : (reducesTo_S16x1024x32x40_S16x32_d1_3.drop i 0 : Nat) = i 0 := Shape.ReducesTo.drop_apply_val _ i 0
    have h1 : (reducesTo_S16x1024x32x40_S16x32_d1_3.drop i 1 : Nat) = i 2 := Shape.ReducesTo.drop_apply_val _ i 1
    constructor
    · intro e
      rw [e] at h0 h1
      refine ⟨(i 1, i 3), funext fun a => Fin.ext ?_⟩
      match a with
      | ⟨0, _⟩ => exact h0
      | ⟨1, _⟩ => rfl
      | ⟨2, _⟩ => exact h1
      | ⟨3, _⟩ => rfl
    · rintro ⟨p, rfl⟩
      refine funext fun a => Fin.ext ?_
      match a with
      | ⟨0, _⟩ => exact h0
      | ⟨1, _⟩ => exact h1

/-- The mean at an index. -/
theorem rmean_apply (v : FVec Ideal S16x1024x32x40 .f32) (s : Fin 16) (g : Fin 32) :
    rmean v (ix4 s 0 g 0) = Ideal.div (∑ r : Fin 1024, ∑ k : Fin 40, v (ix4 s r g k) : EReal) ((40960 : ℝ) : EReal) := by
  rw [← sum_apply, ← ofBits_40960]
  unfold rmean
  generalize Host.reduceAdd v (constant S_ .f32 0x00000000#32) reducesTo_S16x1024x32x40_S16x32_d1_3 h_S_ = w
  pointwise

/-- The deviation at an index. -/
theorem rcent_apply (v : FVec Ideal S16x1024x32x40 .f32) (s : Fin 16) (r : Fin 1024) (g : Fin 32) (k : Fin 40) :
    rcent v (ix4 s r g k) = (v (ix4 s r g k) - rmean v (ix4 s 0 g 0) : EReal) := by
  unfold rcent
  generalize rmean v = w
  pointwise

/-- The reciprocal standard deviation at an index. -/
theorem rrstd_apply (d : FVec Ideal S16x1024x32x40 .f32) (s : Fin 16) (g : Fin 32) :
    rrstd d (ix4 s 0 g 0) = Ideal.rsqrt (rmean (mulf d d) (ix4 s 0 g 0) + ((eps : ℝ) : EReal)) := by
  rw [← ofBits_eps]
  unfold rrstd
  generalize rmean (mulf d d) = w
  pointwise

/-- The normalised element at an index. -/
theorem rxhat_apply (d : FVec Ideal S16x1024x32x40 .f32) (s : Fin 16) (r : Fin 1024) (g : Fin 32) (k : Fin 40) :
    rxhat d (ix4 s r g k) = (d (ix4 s r g k) * rrstd d (ix4 s 0 g 0) : EReal) := by
  unfold rxhat
  generalize rrstd d = w
  pointwise

/-- A row of channels spread over samples and rows. -/
theorem rrow_apply (g : FVec Ideal S1280 .f32) (s : Fin 16) (r : Fin 1024) (ch : Fin 1280) : rrow g (ix3 s r ch) = g (ix1 ch) := by
  unfold rrow
  pointwise

/-- The normalised, scaled and shifted element at an index. -/
theorem rnorm_apply (n : FVec Ideal S16x1024x32x40 .f32) (g b : FVec Ideal S1280 .f32) (s : Fin 16) (r : Fin 1024) (ch : Fin 1280) :
    rnorm n g b (ix3 s r ch) = (n (ix4 s r (grpOf ch) ⟨ch.val % 40, Nat.mod_lt _ (by decide)⟩) * g (ix1 ch) + b (ix1 ch) : EReal) := by
  rw [← rrow_apply g s r ch, ← rrow_apply b s r ch]
  unfold rnorm grpOf
  generalize rrow g = g'
  generalize rrow b = b'
  pointwise

/-- The activation at an index. -/
theorem rsilu_apply (w : FVec Ideal S16x1024x1280 .f32) (s : Fin 16) (r : Fin 1024) (ch : Fin 1280) :
    rsilu w (ix3 s r ch) = (w (ix3 s r ch) * Ideal.div ((1 : ℝ) : EReal) (((1 : ℝ) : EReal) + Ideal.exp (-(w (ix3 s r ch)))) : EReal) := by
  rw [← ofBits_one]
  unfold rsilu
  pointwise
  try rfl

/-- The elements by block, at an index. -/
theorem cast32_apply (w : FVec Ideal S16x1024x1280 .f32) (s : Fin 16) (r : Fin 1024) (b : Fin 40) (k : Fin 32) :
    shapeCast S16x1024x40x32 w shapeCasts_S16x1024x1280_S16x1024x40x32 (ix4 s r b k) = w (ix3 s r (blk b k)) := by
  unfold blk
  pointwise
  exact congrArg (fun q => w (ix3 s r q)) (Fin.ext (by show b.val * 32 + k.val = 32 * b.val + k.val; omega))

/-- A block's greatest magnitude. -/
theorem rmax_apply (q : FVec Ideal S16x1024x40x32 .f32) (s : Fin 16) (r : Fin 1024) (b : Fin 40) :
    rmax q (ix4 s r b 0) = ((Finset.univ : Finset (Fin 32)).sup fun k => max (q (ix4 s r b k)) (-(q (ix4 s r b k))) : EReal) := by
  unfold Finset.sup
  rw [← ofBits_bot]
  unfold rmax
  pointwise
  rfl

/-- A block's exponent. -/
theorem rexpo_apply (a : FVec Ideal S16x1024x40x1 .f32) (s : Fin 16) (r : Fin 1024) (b : Fin 40) :
    rexpo a (ix4 s r b 0) = Scalar.select (Ideal.cmp .oeq (a (ix4 s r b 0)) 0) 0#32
      (Ideal.fptosi 32 (max (Ideal.liftRound Int.floor (Ideal.div (Ideal.log (Ideal.div (a (ix4 s r b 0)) ((448 : ℝ) : EReal))) (Ideal.log ((2 : ℝ) : EReal))) + ((1 : ℝ) : EReal)) ((-126 : ℝ) : EReal))) := by
  rw [← ofBits_448, ← ofBits_two, ← ofBits_one, ← ofBits_neg126, ← Ideal.ofBits_zero_f32]
  unfold rexpo
  pointwise
  try rfl

/-- A code at an index. -/
theorem rcodes_apply (q : FVec Ideal S16x1024x40x32 .f32) (e : IVec S16x1024x40x1 32) (s : Fin 16) (r : Fin 1024) (ch : Fin 1280) :
    rcodes q e (ix3 s r ch) = (min ((448 : ℝ) : EReal) (max ((-448 : ℝ) : EReal) (q (ix4 s r (blkOf ch) ⟨ch.val % 32, Nat.mod_lt _ (by decide)⟩)
      * Ideal.pow ((2 : ℝ) : EReal) (-(((e (ix4 s r (blkOf ch) 0)).toInt : ℝ) : EReal)))) : EReal) := by
  rw [← ofBits_448, ← ofBits_neg448, ← ofBits_two]
  unfold rcodes blkOf
  pointwise
  try rfl

/-- A scale at an index. -/
theorem rscale_apply (e : IVec S16x1024x40x1 32) (s : Fin 16) (r : Fin 1024) (b : Fin 40) :
    rscale e (ix3 s r b) = (e (ix4 s r b 0) + 127#32).setWidth 8 := by
  unfold rscale
  pointwise
  try rfl

/-! ## On real arguments -/

variable {x : FVec Ideal S16x1024x1280 .bf16} {g b : FVec Ideal S1280 .f32}
variable {X : Fin 16 → Fin 1024 → Fin 1280 → ℝ} {G B : Fin 1280 → ℝ}

/-- The arguments are real. -/
structure Args (x : FVec Ideal S16x1024x1280 .bf16) (g b : FVec Ideal S1280 .f32)
    (X : Fin 16 → Fin 1024 → Fin 1280 → ℝ) (G B : Fin 1280 → ℝ) : Prop where
  x : ∀ s r ch, x (ix3 s r ch) = ((X s r ch : ℝ) : EReal)
  g : ∀ ch, g (ix1 ch) = ((G ch : ℝ) : EReal)
  b : ∀ ch, b (ix1 ch) = ((B ch : ℝ) : EReal)

/-- The elements by group. -/
abbrev gx (x : FVec Ideal S16x1024x1280 .bf16) : FVec Ideal S16x1024x32x40 .f32 :=
  shapeCast S16x1024x32x40 (extf .f32 x bitsLt_bf16_f32) shapeCasts_S16x1024x1280_S16x1024x32x40

variable (h : Args x g b X G B)
include h

/-- The reference's mean is the group's mean. -/
theorem mean_eq (s : Fin 16) (q : Fin 32) : rmean (gx x) (ix4 s 0 q 0) = ((mean (X s) q : ℝ) : EReal) := by
  rw [rmean_apply]
  simp only [gx, groups_apply, h.x, ← coe_sum]
  rw [Ideal.div_coe (by norm_num), ← EReal.coe_mul]
  rfl

/-- The reference's deviation is the element less the mean. -/
theorem cent_eq (s : Fin 16) (r : Fin 1024) (q : Fin 32) (k : Fin 40) :
    rcent (gx x) (ix4 s r q k) = ((X s r (grp q k) - mean (X s) q : ℝ) : EReal) := by
  rw [rcent_apply, mean_eq h, EReal.coe_sub]
  simp only [gx, groups_apply, h.x]

/-- The reference's reciprocal standard deviation is the group's. -/
theorem rstd_eq (s : Fin 16) (q : Fin 32) : rrstd (rcent (gx x)) (ix4 s 0 q 0) = (((√(var (X s) q + eps))⁻¹ : ℝ) : EReal) := by
  have e : rmean (mulf (rcent (gx x)) (rcent (gx x))) (ix4 s 0 q 0) = ((var (X s) q : ℝ) : EReal) := by
    rw [rmean_apply]
    have e : ∀ r k, mulf (rcent (gx x)) (rcent (gx x)) (ix4 s r q k)
        = (((X s r (grp q k) - mean (X s) q) * (X s r (grp q k) - mean (X s) q) : ℝ) : EReal) := fun r k => by
      rw [EReal.coe_mul, ← cent_eq h]
      rfl
    simp only [e, ← coe_sum]
    rw [Ideal.div_coe (by norm_num), ← EReal.coe_mul]
    rfl
  rw [rrstd_apply, e, ← EReal.coe_add, Ideal.rsqrt_coe]
  have := var_nonneg (X s) q
  have := eps_pos
  rw [if_neg (by linarith), if_neg (by linarith)]

/-- The reference's normalised element. -/
theorem norm_eq (s : Fin 16) (r : Fin 1024) (ch : Fin 1280) :
    rnorm (rxhat (rcent (gx x))) g b (ix3 s r ch) = ((nrm (X s) G B r ch : ℝ) : EReal) := by
  rw [rnorm_apply, rxhat_apply, rstd_eq h, cent_eq h, h.g, h.b, grp_grpOf, ← EReal.coe_mul, ← EReal.coe_mul, ← EReal.coe_add]
  rfl

/-- The reference's activation. -/
theorem silu_eq (s : Fin 16) (r : Fin 1024) (ch : Fin 1280) :
    rsilu (rnorm (rxhat (rcent (gx x))) g b) (ix3 s r ch) = ((yv (X s) G B r ch : ℝ) : EReal) := by
  have hp := Real.exp_pos (-(nrm (X s) G B r ch))
  rw [rsilu_apply, norm_eq h, ← EReal.coe_neg, Ideal.exp_coe, ← EReal.coe_add, Ideal.div_coe (by linarith), ← EReal.coe_mul, ← EReal.coe_mul, one_mul]
  rfl

/-- The reference's activation by block. -/
theorem blocks_eq (s : Fin 16) (r : Fin 1024) (q : Fin 40) (k : Fin 32) :
    rblocks x g b (ix4 s r q k) = ((yv (X s) G B r (blk q k) : ℝ) : EReal) := by
  unfold rblocks
  rw [cast32_apply, silu_eq h]

/-- The reference's greatest magnitude of a block. -/
theorem max_eq (s : Fin 16) (r : Fin 1024) (q : Fin 40) : rmax (rblocks x g b) (ix4 s r q 0) = ((amx (X s) G B r q : ℝ) : EReal) := by
  rw [rmax_apply]
  simp only [blocks_eq h, ← coe_abs]
  exact (coe_sup _).symm

variable (hG : ∀ ch, |G ch| ≤ 2 ^ 100) (hB : ∀ ch, |B ch| ≤ 2 ^ 100)
include hG hB

/-- The reference's exponent of a block. -/
theorem expo_eq (s : Fin 16) (r : Fin 1024) (q : Fin 40) :
    rexpo (rmax (rblocks x g b)) (ix4 s r q 0) = BitVec.ofInt 32 (ex (X s) G B r q) := by
  obtain ⟨h0, h1⟩ := ex_bounds (X := X s) hG hB r q
  have ha := amx_nonneg (X := X s) (G := G) (B := B) r q
  rw [rexpo_apply, max_eq h]
  unfold ex at h0 h1 ⊢
  generalize amx (X s) G B r q = A at ha h0 h1 ⊢
  by_cases hA : A = 0
  · rw [hA]
    simp [Scalar.select, Ideal.cmp, expo]
  · have hA' : 0 < A := lt_of_le_of_ne ha (Ne.symm hA)
    have ht : ¬ A * (1 / 448) ≤ 0 := not_le.mpr (by positivity)
    have ht' : A * (1 / 448) ≠ 0 := by positivity
    have hl : 0 < Real.log 2 := Real.log_pos (by norm_num)
    have hc : Ideal.cmp .oeq ((A : ℝ) : EReal) 0 = 0#1 := by
      show BitVec.ofBool (decide (((A : ℝ) : EReal) = 0)) = 0#1
      rw [decide_eq_false (by exact_mod_cast hA)]
      rfl
    rw [hc]
    show Ideal.fptosi 32 _ = _
    unfold expo at h0 h1 ⊢
    rw [if_neg ht'] at h0 h1 ⊢
    rw [Ideal.div_coe (by norm_num), ← EReal.coe_mul, Ideal.log_coe, if_neg ht, Ideal.log_coe, if_neg (by norm_num), Ideal.div_coe hl.ne', ← EReal.coe_mul,
      Ideal.liftRound_coe, ← EReal.coe_add, ← coe_max, mul_one_div]
    generalize ⌊Real.log (A * (1 / 448)) / Real.log 2⌋ = n at h0 h1 ⊢
    have e : max ((n : ℝ) + 1) (-126) = ((max (n + 1) (-126) : ℤ) : ℝ) := by push_cast; rfl
    rw [e]
    generalize max (n + 1) (-126) = z at h0 h1 ⊢
    unfold Ideal.fptosi
    rw [Ideal.toIntClamped_coe, Int.floor_intCast, Int.ceil_intCast, ite_self]
    congr 1
    norm_num
    omega

/-- The reference's code. -/
theorem codes_eq (s : Fin 16) (r : Fin 1024) (ch : Fin 1280) :
    rcodes (rblocks x g b) (rexpo (rmax (rblocks x g b))) (ix3 s r ch) = ((code (X s) G B r ch : ℝ) : EReal) := by
  obtain ⟨h0, h1⟩ := ex_bounds (X := X s) hG hB r (blkOf ch)
  have hb : blk (blkOf ch) ⟨ch.val % 32, Nat.mod_lt _ (by decide)⟩ = ch := Fin.ext (by
    show 32 * (ch.val / 32) + ch.val % 32 = ch.val
    omega)
  rw [rcodes_apply, blocks_eq h, expo_eq h hG hB, hb, ofInt_toInt h0 h1, ← EReal.coe_neg, Ideal.pow_coe_coe, ← EReal.coe_mul, ← coe_max, ← coe_min]
  unfold code
  congr 4
  show (2 : ℝ) ^ (-((ex (X s) G B r (blkOf ch) : ℤ) : ℝ)) = _
  rw [← Int.cast_neg, Real.rpow_intCast]

/-- The reference's scale. -/
theorem scale_eq (s : Fin 16) (r : Fin 1024) (q : Fin 40) :
    rscale (rexpo (rmax (rblocks x g b))) (ix3 s r q) = (BitVec.ofInt 32 (ex (X s) G B r q) + 127#32).setWidth 8 := by
  rw [rscale_apply, expo_eq h hG hB]

end Cert.ReferenceIdeal.Rn

end
-- ==== Proof.RefRun.lean ====
/- What the reference program leaves in its results, at an index, from real arguments. -/
module

public import proofs.«01_k».proof.Proof.RefSpec
public import proofs.«01_k».proof.Proof.Gen.ReferenceIdeal.Value

@[expose] public section

set_option maxRecDepth 16384

noncomputable section

namespace Cert.ReferenceIdeal.Rn

open Cert.ReferenceIdeal Cert.ReferenceIdeal.Gen Cert.Gn
open Idealize.ShloMosaic Idealize.ShloMosaic.TcCoe Idealize.SL.Sem

variable (m : (ℓ : Loc nD τ sig) → Buf (Elt Ideal) ℓ)

/-- The one grid point. -/
def pt : Fin cfg0.N := ⟨0, by decide⟩

/-- The window of the codes to narrow does not move. -/
theorem idx0 : win0_0.index pt (0 : Fin 3) = 0 ∧ win0_0.index pt (1 : Fin 3) = 0 ∧ win0_0.index pt (2 : Fin 3) = 0 := by decide +kernel
/-- The codes' window does not move. -/
theorem idx1 : win0_1.index pt (0 : Fin 3) = 0 ∧ win0_1.index pt (1 : Fin 3) = 0 ∧ win0_1.index pt (2 : Fin 3) = 0 := by decide +kernel

/-- The block the body reads is the whole array of codes before their narrowing. -/
theorem iblk0 (c : Dev nD) (s : Fin 16) (r : Fin 1024) (ch : Fin 1280) :
    (iblk m c 0 pt : Vec Ideal S16x1024x1280 .f32) (ix3 s r ch) = (V m c main_v59 : Vec Ideal S16x1024x1280 .f32) (ix3 s r ch) := by
  obtain ⟨e0, e1, e2⟩ := idx0
  show V m c main_v59 (((cfg0.win 0).blk pt).view.emb (ix3 s r ch)) = V m c main_v59 _
  refine congrArg _ (funext fun a => Fin.ext ?_)
  match a with
  | ⟨0, _⟩ => show win0_0.index pt (0 : Fin 3) * 16 + 1 * s.val = s.val; omega
  | ⟨1, _⟩ => show win0_0.index pt (1 : Fin 3) * 1024 + 1 * r.val = r.val; omega
  | ⟨2, _⟩ => show win0_0.index pt (2 : Fin 3) * 1280 + 1 * ch.val = ch.val; omega

/-- The codes' array at an index: the codes before their narrowing, which changes nothing in exact arithmetic. -/
theorem arr1 (c : Dev nD) (s : Fin 16) (r : Fin 1024) (ch : Fin 1280) :
    ((dats m 0 c).arrAt 1 cfg0.N : Vec Ideal S16x1024x1280 .fp8e4m3) (ix3 s r ch) = (V m c main_v59 : Vec Ideal S16x1024x1280 .f32) (ix3 s r ch) := by
  obtain ⟨e0, e1, e2⟩ := idx1
  have h := (dats m 0 c).arrAt_emb_eq_flushed 1 Value.disjoint1 pt (flush0_1 _) (ix3 s r ch)
  have e : ((cfg0.win 1).blk pt).view.emb (ix3 s r ch) = (ix3 s r ch : S16x1024x1280.Idx) := by
    refine funext fun a => Fin.ext ?_
    match a with
    | ⟨0, _⟩ => show win0_1.index pt (0 : Fin 3) * 16 + 1 * s.val = s.val; omega
    | ⟨1, _⟩ => show win0_1.index pt (1 : Fin 3) * 1024 + 1 * r.val = r.val; omega
    | ⟨2, _⟩ => show win0_1.index pt (2 : Fin 3) * 1280 + 1 * ch.val = ch.val; omega
  rw [← iblk0, ← e]
  refine h.trans ?_
  show (dats m 0 c).after 1 pt (ix3 s r ch) = _
  rw [after0_1, e]
  unfold out0_1
  rw [Value.canon1_eq]
  show iblk m c 0 pt (r0_0.idx (Value.ix1_0 (ix3 s r ch))) = _
  refine congrArg _ (funext fun a => Fin.ext ?_)
  match a with
  | ⟨0, _⟩ => show 0 + 1 * s.val = s.val; omega
  | ⟨1, _⟩ => show 0 + 1 * r.val = r.val; omega
  | ⟨2, _⟩ => show 0 + 1 * ch.val = ch.val; omega

variable {X : Fin 16 → Fin 1024 → Fin 1280 → ℝ} {G B : Fin 1280 → ℝ}

/-- A device's arguments are real. -/
abbrev MArgs (c : Dev nD) (X : Fin 16 → Fin 1024 → Fin 1280 → ℝ) (G B : Fin 1280 → ℝ) : Prop :=
  Args (m ((c : Thread nD τ).loc main_arg0)) (m ((c : Thread nD τ).loc main_arg1)) (m ((c : Thread nD τ).loc main_arg2)) X G B

variable {m}

/-- The reference's codes. -/
theorem codes_at (c : Dev nD) (h : MArgs m c X G B) (hG : ∀ ch, |G ch| ≤ 2 ^ 100) (hB : ∀ ch, |B ch| ≤ 2 ^ 100) (s : Fin 16) (r : Fin 1024) (ch : Fin 1280) :
    ((dats m 0 c).arrAt 1 cfg0.N : Vec Ideal S16x1024x1280 .fp8e4m3) (ix3 s r ch) = ((code (X s) G B r ch : ℝ) : EReal) := by
  rw [arr1, V_codes]
  exact codes_eq h hG hB s r ch

/-- The reference's scales. -/
theorem scale_at (c : Dev nD) (h : MArgs m c X G B) (hG : ∀ ch, |G ch| ≤ 2 ^ 100) (hB : ∀ ch, |B ch| ≤ 2 ^ 100) (s : Fin 16) (r : Fin 1024) (b : Fin 40) :
    (V m c main_v63 : IVec S16x1024x40 8) (ix3 s r b) = (BitVec.ofInt 32 (ex (X s) G B r b) + 127#32).setWidth 8 := by
  rw [V_scale]
  exact scale_eq h hG hB s r b

end Cert.ReferenceIdeal.Rn

end
-- ==== Proof.Pre.lean ====
/- What the precondition says: the arguments are real, and the scale and shift are at most 2¹⁰⁰ in magnitude. -/
module

public import proofs.«01_k».proof.Defs
public import proofs.«01_k».proof.Proof.Gen.Pre_pre
public import Idealize.ShloMosaic.Lib.ReduceAll

@[expose] public section

set_option maxRecDepth 16384

noncomputable section

namespace Cert.Pre_pre.Gn

open Cert.Pre_pre Cert.Pre_pre.Gen
open Idealize.ShloMosaic

/-- The bits of infinity. -/
theorem ofBits_inf : Ideal.ofBits .f32 0x7F800000#32 = (⊤ : EReal) := by
  unfold Ideal.ofBits Ideal.ieee
  simp only [show (0x7F800000#32).extractLsb' 31 1 = 0#1 by decide, show ((0x7F800000#32).extractLsb' 23 8).toNat = 255 by decide,
    show ((0x7F800000#32).extractLsb' 0 23).toNat = 0 by decide]
  norm_num

/-- The bits of 2¹⁰⁰. -/
theorem ofBits_two100 : Ideal.ofBits .f32 0x71800000#32 = (((2 : ℝ) ^ 100 : ℝ) : EReal) := by
  unfold Ideal.ofBits Ideal.ieee
  simp only [show (0x71800000#32).extractLsb' 31 1 = 0#1 by decide, show ((0x71800000#32).extractLsb' 23 8).toNat = 227 by decide,
    show ((0x71800000#32).extractLsb' 0 23).toNat = 0 by decide]
  norm_num

/-- A magnitude below infinity is a real's. -/
theorem real_of_lt (v : EReal) (h : max v (-v) < ⊤) : v = ((v.toReal : ℝ) : EReal) := by
  refine (EReal.coe_toReal (fun e => ?_) (fun e => ?_)).symm
  · rw [e] at h; simp at h
  · rw [e] at h; simp at h

/-- A magnitude at most a real is a real's. -/
theorem real_of_le (v : EReal) (b : ℝ) (h : max v (-v) ≤ ((b : ℝ) : EReal)) : v = ((v.toReal : ℝ) : EReal) ∧ |v.toReal| ≤ b := by
  have e := real_of_lt v (lt_of_le_of_lt h (EReal.coe_lt_top b))
  refine ⟨e, ?_⟩
  rw [e] at h
  have h1 := (le_max_left _ _).trans h
  have h2 := (le_max_right _ _).trans h
  rw [← EReal.coe_neg] at h2
  rw [EReal.coe_le_coe_iff] at h1 h2
  exact abs_le.mpr ⟨by linarith, h1⟩

/-- What the precondition says of the arguments. -/
theorem sound (x : FVec Ideal S16x1024x1280 .bf16) (g b : FVec Ideal S1280 .f32) (h : fn (F := Ideal) x g b = fun _ => 1#1) :
    (∀ i, x i = (((x i : EReal).toReal : ℝ) : EReal))
    ∧ (∀ i, g i = (((g i : EReal).toReal : ℝ) : EReal) ∧ |(g i : EReal).toReal| ≤ 2 ^ 100)
    ∧ (∀ i, b i = (((b i : EReal).toReal : ℝ) : EReal) ∧ |(b i : EReal).toReal| ≤ 2 ^ 100) := by
  have : Subsingleton S_.Idx := ⟨fun a b => funext fun i => i.elim0⟩
  have e := congrFun h (fun i => i.elim0)
  obtain ⟨e, e3⟩ := IntOp.andi_eq_one.mp e
  obtain ⟨e1, e2⟩ := IntOp.andi_eq_one.mp e
  refine ⟨fun i => ?_, fun i => ?_, fun i => ?_⟩
  · have q := Host.reduce_andi_all _ _ _ _ _ e1 i
    have q : BitVec.ofBool (decide (max (x i : EReal) (-(x i)) < Ideal.ofBits .f32 0x7F800000#32)) = 1#1 := q
    rw [ofBits_inf] at q
    refine real_of_lt _ ?_
    by_contra hn
    rw [decide_eq_false hn] at q
    exact absurd q (by decide)
  · have q := Host.reduce_andi_all _ _ _ _ _ e2 i
    have q : BitVec.ofBool (decide (max (g i : EReal) (-(g i)) ≤ Ideal.ofBits .f32 0x71800000#32)) = 1#1 := q
    rw [ofBits_two100] at q
    refine real_of_le _ _ ?_
    by_contra hn
    rw [decide_eq_false hn] at q
    exact absurd q (by decide)
  · have q := Host.reduce_andi_all _ _ _ _ _ e3 i
    have q : BitVec.ofBool (decide (max (b i : EReal) (-(b i)) ≤ Ideal.ofBits .f32 0x71800000#32)) = 1#1 := q
    rw [ofBits_two100] at q
    refine real_of_le _ _ ?_
    by_contra hn
    rw [decide_eq_false hn] at q
    exact absurd q (by decide)

end Cert.Pre_pre.Gn

end
-- ==== Proof.Algebraic.lean ====
/- The kernel's idealization and the reference leave equal results. -/
module

public import proofs.«01_k».proof.Defs
public import proofs.«01_k».proof.Proof.KernelRun
public import proofs.«01_k».proof.Proof.RefRun
public import proofs.«01_k».proof.Proof.Pre

@[expose] public section

set_option maxRecDepth 16384

noncomputable section

namespace Cert.Algebraic

open Cert.Gn
open Idealize.ShloMosaic Idealize.ShloMosaic.TcCoe Idealize.SL.Sem

/-- A rank-3 index from its coordinates. -/
theorem ix3_eta {a b c : Nat} (i : (⟨3, ![a, b, c]⟩ : Shape).Idx) : i = ix3 (i 0) (i 1) (i 2) := by
  refine funext fun q => ?_
  match q with
  | ⟨0, _⟩ => rfl
  | ⟨1, _⟩ => rfl
  | ⟨2, _⟩ => rfl

section Kernel

open Cert.KernelIdeal Cert.KernelIdeal.Gen Cert.KernelIdeal.Gn

variable (m : (ℓ : Loc nD τ sig) → Buf (Elt Ideal) ℓ)
variable {X : Fin 16 → Fin 1024 → Fin 1280 → ℝ} {G B : Fin 1280 → ℝ}

/-- A device's arguments are real. -/
structure KArgs (c : Dev nD) (X : Fin 16 → Fin 1024 → Fin 1280 → ℝ) (G B : Fin 1280 → ℝ) : Prop where
  x : ∀ s r ch, (m ((c : Thread nD τ).loc main_arg0) : Vec Ideal S16x1024x1280 .bf16) (ix3 s r ch) = ((X s r ch : ℝ) : EReal)
  g : ∀ ch, (m ((c : Thread nD τ).loc main_arg1) : Vec Ideal S1280 .f32) (ix1 ch) = ((G ch : ℝ) : EReal)
  b : ∀ ch, (m ((c : Thread nD τ).loc main_arg2) : Vec Ideal S1280 .f32) (ix1 ch) = ((B ch : ℝ) : EReal)
  hG : ∀ ch, |G ch| ≤ 2 ^ 100
  hB : ∀ ch, |B ch| ≤ 2 ^ 100

variable {m}

/-- The operands of the body at a sample's grid point. -/
theorem operands (c : Dev nD) (h : KArgs m c X G B) (s : Fin 16) :
    Operands (iblk m c 0 (pt s)) (iblk m c 1 (pt s)) (iblk m c 2 (pt s)) (iblk m c 3 (pt s)) (X s) G B where
  x r ch := (iblk0 m c s r ch).trans (h.x s r ch)
  ind g ch := (iblk1 m c (pt s) g ch).trans (V_ind m c g ch)
  gam ch l := ((iblk2 m c (pt s) ch l).trans (V_gam m c ch l)).trans (h.g ch)
  bet ch l := ((iblk3 m c (pt s) ch l).trans (V_bet m c ch l)).trans (h.b ch)

/-- The kernel's codes. -/
theorem codes_at (c : Dev nD) (h : KArgs m c X G B) (s : Fin 16) (r : Fin 1024) (ch : Fin 1280) :
    ((dats m 0 c).arrAt 4 cfg0.N : Vec Ideal S16x1024x1280 .fp8e4m3) (ix3 s r ch) = ((code (X s) G B r ch : ℝ) : EReal) := by
  rw [arr4]
  unfold codesAt
  rw [codesV_apply]
  exact codeK_eq exact (operands c h s) h.hG h.hB r ch

/-- The kernel's scales. -/
theorem scale_at (c : Dev nD) (h : KArgs m c X G B) (s : Fin 16) (r : Fin 1024) (b : Fin 40) :
    (Pipeline.afterTail₀ cfgs (dats m) 0 (V0 m) [hostOps1] c main_v15 : Vec Ideal S16x1024x40 .i8) (ix3 s r b)
      = (BitVec.ofInt 32 (ex (X s) G B r b) + 127#32).setWidth 8 := by
  rw [tail15]
  unfold scaleAt
  rw [scaleV_apply, scaleK_eq exact (operands c h s) h.hG h.hB r b]

/-- After the run, the results and the arguments. -/
theorem post (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v13_0) = (dats m 0 c).arrAt 4 cfg0.N
    ∧ r.2.mem ((c : Thread nD τ).loc main_v15) = Pipeline.afterTail₀ cfgs (dats m) 0 (V0 m) [hostOps1] c main_v15
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c).1 4,
    (h c).2 main_v15 (Pipeline.mem_restRefs_of main_v15 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩

end Kernel

/-- Equal results, from arguments that meet the precondition. -/
theorem algebraic : Cert.algebraic_KernelIdeal_ReferenceIdeal_pre_pre := by
  intro m g m' g' hpre hag
  have hargs : ∀ c : Dev Cert.KernelIdeal.nD, ∃ X G B, KArgs m c X G B
      ∧ Cert.ReferenceIdeal.Rn.MArgs m' c X G B := fun c => by
    obtain ⟨hx, hg, hb⟩ := Cert.Pre_pre.Gn.sound _ _ _ (hpre c)
    obtain ⟨e0, e1, e2⟩ := hag c
    refine ⟨_, _, _, ⟨fun s r ch => hx (ix3 s r ch), fun ch => (hg (ix1 ch)).1, fun ch => (hb (ix1 ch)).1, fun ch => (hg (ix1 ch)).2, fun ch => (hb (ix1 ch)).2⟩, ?_⟩
    exact ⟨fun s r ch => (congrFun e0 _).trans (hx (ix3 s r ch)), fun ch => (congrFun e1 _).trans (hg (ix1 ch)).1, fun ch => (congrFun e2 _).trans (hb (ix1 ch)).1⟩
  refine ⟨fun c => (Cert.KernelIdeal.Gn.dats m 0 c).arrAt 4 Cert.KernelIdeal.cfg0.N,
    fun c => Pipeline.afterTail₀ Cert.KernelIdeal.cfgs (Cert.KernelIdeal.Gn.dats m) 0 (Cert.KernelIdeal.Gen.V0 m) [Cert.KernelIdeal.Gen.hostOps1] c Cert.KernelIdeal.main_v15,
    (θ_run _ _ _).mono (fun r h c => post r h c) (Cert.KernelIdeal.Gn.run_main m g), ?_⟩
  refine (θ_run _ _ _).mono (fun r h c => ?_) (Cert.ReferenceIdeal.Gen.run_main m' g')
  obtain ⟨X, G, B, hk, hr⟩ := hargs c
  refine ⟨(Cert.ReferenceIdeal.Value.post1 m' r h c).trans (funext fun i => ?_),
    ((h c).2 Cert.ReferenceIdeal.main_v63 (Pipeline.mem_restRefs_of Cert.ReferenceIdeal.main_v63 (by decide) (by decide))).trans (funext fun i => ?_),
    Cert.ReferenceIdeal.Value.kept_main_arg0 m' r h c, Cert.ReferenceIdeal.Value.kept_main_arg1 m' r h c, Cert.ReferenceIdeal.Value.kept_main_arg2 m' r h c⟩
  · obtain ⟨s, q, ch, rfl⟩ : ∃ (s : Fin 16) (q : Fin 1024) (ch : Fin 1280), i = ix3 s q ch := ⟨_, _, _, ix3_eta i⟩
    exact (Cert.ReferenceIdeal.Rn.codes_at c hr hk.hG hk.hB s q ch).trans (codes_at c hk s q ch).symm
  · obtain ⟨s, q, b, rfl⟩ : ∃ (s : Fin 16) (q : Fin 1024) (b : Fin 40), i = ix3 s q b := ⟨_, _, _, ix3_eta i⟩
    exact (Cert.ReferenceIdeal.Rn.scale_at c hr hk.hG hk.hB s q b).trans (scale_at c hk s q b).symm

end Cert.Algebraic

end
-- ==== Proof.lean ====
module

public import proofs.«01_k».proof.Defs
public import proofs.«01_k».proof.Proof.Parts
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Pre_pre

@[expose] public section

noncomputable section

/-- The claims, proved. -/
theorem Cert.Proof.claim : Cert.Claim :=
  ⟨Cert.Kernel.Gen.facts, Cert.KernelIdeal.Gen.facts, Cert.ReferenceIdeal.Gen.facts, Cert.Pre_pre.Gen.facts,
    Parts.frame_p,
    Parts.frame_pi,
    fun m ρ _ => Parts.frame_pi m ρ trivial,
    Parts.frame_ri,
    fun m ρ _ => Parts.frame_ri m ρ trivial,
    Parts.preserves,
    Algebraic.algebraic⟩

end
